-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v3_0)) (v5 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v3_0) = v4 c
          ∧ r.2.mem ((c.tc : Thread Cert.KernelIdeal.nD Cert.KernelIdeal.τ).loc Cert.KernelIdeal.main_v3_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v548) = v0 c
          ∧ r.2.mem ((c.tc : Thread Cert.ReferenceIdeal.nD Cert.ReferenceIdeal.τ).loc Cert.ReferenceIdeal.main_v545) = v1 c
          ∧ r.2.mem ((c.tc : Thread Cert.ReferenceIdeal.nD Cert.ReferenceIdeal.τ).loc Cert.ReferenceIdeal.main_v280) = v2 c
          ∧ r.2.mem ((c.tc : Thread Cert.ReferenceIdeal.nD Cert.ReferenceIdeal.τ).loc Cert.ReferenceIdeal.main_v534) = v3 c
          ∧ r.2.mem ((c.tc : Thread Cert.ReferenceIdeal.nD Cert.ReferenceIdeal.τ).loc Cert.ReferenceIdeal.main_v260) = v4 c
          ∧ r.2.mem ((c.tc : Thread Cert.ReferenceIdeal.nD Cert.ReferenceIdeal.τ).loc Cert.ReferenceIdeal.main_v514) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x512 : Shape := ⟨3, ![16, 1024, 512]⟩
abbrev S16x1024 : Shape := ⟨2, ![16, 1024]⟩
abbrev S1024x256 : Shape := ⟨2, ![1024, 256]⟩
abbrev S64x256 : Shape := ⟨2, ![64, 256]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S16x1024x512 .f32) (main_arg1 : IVec S16x1024 1) (main_arg2 : FVec F S1024x256 .f32) (main_arg3 : FVec F S64x256 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S1024x256 .f32 := Host.absf main_arg2
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  main_v13
-- ==== Kernel.lean ====
abbrev S16x1024x512 : Shape := ⟨3, ![16, 1024, 512]⟩
abbrev S16x1024 : Shape := ⟨2, ![16, 1024]⟩
abbrev S1024x256 : Shape := ⟨2, ![1024, 256]⟩
abbrev S64x256 : Shape := ⟨2, ![64, 256]⟩
abbrev S16384x512 : Shape := ⟨2, ![16384, 512]⟩
abbrev S16384 : Shape := ⟨1, ![16384]⟩
abbrev S16384x256 : Shape := ⟨2, ![16384, 256]⟩
abbrev S_ : Shape := ⟨0, ![]⟩
abbrev S1024 : Shape := ⟨1, ![1024]⟩
abbrev S64 : Shape := ⟨1, ![64]⟩
abbrev S1 : Shape := ⟨1, ![1]⟩
abbrev S1024x1 : Shape := ⟨2, ![1024, 1]⟩
abbrev S1x1024 : Shape := ⟨2, ![1, 1024]⟩
abbrev S1024x1024 : Shape := ⟨2, ![1024, 1024]⟩
abbrev S1x64 : Shape := ⟨2, ![1, 64]⟩
abbrev S1024x64 : Shape := ⟨2, ![1024, 64]⟩
abbrev S128 : Shape := ⟨1, ![128]⟩
abbrev S4 : Shape := ⟨1, ![4]⟩
abbrev S1024x512 : Shape := ⟨2, ![1024, 512]⟩
abbrev S1024x128 : Shape := ⟨2, ![1024, 128]⟩
abbrev S1x128 : Shape := ⟨2, ![1, 128]⟩
abbrev S1x1024x256 : Shape := ⟨3, ![1, 1024, 256]⟩
abbrev S1x1x1 : Shape := ⟨3, ![1, 1, 1]⟩
abbrev S1x1 : Shape := ⟨2, ![1, 1]⟩

abbrev nBuf : Space → Nat
  | .hbm => 64
  | .vmem => 24
  | .smem => 2
  | _ => 0

abbrev bufTy : (tb : Table) → Fin (tcTables nBuf tb) → BufTy
  | .hbm, ⟨0, _⟩ => ⟨S16x1024x512, .f32⟩
  | .hbm, ⟨1, _⟩ => ⟨S16x1024, .i1⟩
  | .hbm, ⟨2, _⟩ => ⟨S1024x256, .f32⟩
  | .hbm, ⟨3, _⟩ => ⟨S64x256, .f32⟩
  | .hbm, ⟨4, _⟩ => ⟨S16384x512, .f32⟩
  | .hbm, ⟨5, _⟩ => ⟨S16384, .i1⟩
  | .hbm, ⟨6, _⟩ => ⟨S16384, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S16384x256, .f32⟩
  | .hbm, ⟨12, _⟩ => ⟨S16384x256, .f32⟩
  | .hbm, ⟨13, _⟩ => ⟨S_, .f32⟩
  | .hbm, ⟨14, _⟩ => ⟨S16384, .f32⟩
  | .hbm, ⟨15, _⟩ => ⟨S1024x256, .f32⟩
  | .hbm, ⟨16, _⟩ => ⟨S_, .f32⟩
  | .hbm, ⟨17, _⟩ => ⟨S1024, .f32⟩
  | .hbm, ⟨18, _⟩ => ⟨S64x256, .f32⟩
  | .hbm, ⟨19, _⟩ => ⟨S_, .f32⟩
  | .hbm, ⟨20, _⟩ => ⟨S64, .f32⟩
  | .hbm, ⟨21, _⟩ => ⟨S16384x512, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .i1⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S1024, .i32⟩
  | .hbm, ⟨32, _⟩ => ⟨S1024x1, .i32⟩
  | .hbm, ⟨33, _⟩ => ⟨S_, .i32⟩
  | .hbm, ⟨34, _⟩ => ⟨S1024x1, .i32⟩
  | .hbm, ⟨35, _⟩ => ⟨S1024x1, .i32⟩
  | .hbm, ⟨36, _⟩ => ⟨S1024, .i32⟩
  | .hbm, ⟨37, _⟩ => ⟨S1x1024, .i32⟩
  | .hbm, ⟨38, _⟩ => ⟨S1024x1024, .i32⟩
  | .hbm, ⟨39, _⟩ => ⟨S1024x1024, .i32⟩
  | .hbm, ⟨40, _⟩ => ⟨S1024x1024, .i32⟩
  | .hbm, ⟨41, _⟩ => ⟨S1024, .i32⟩
  | .hbm, ⟨42, _⟩ => ⟨S1024x1, .i32⟩
  | .hbm, ⟨43, _⟩ => ⟨S_, .i32⟩
  | .hbm, ⟨44, _⟩ => ⟨S1024x1, .i32⟩
  | .hbm, ⟨45, _⟩ => ⟨S1024x1, .i32⟩
  | .hbm, ⟨46, _⟩ => ⟨S64, .i32⟩
  | .hbm, ⟨47, _⟩ => ⟨S1x64, .i32⟩
  | .hbm, ⟨48, _⟩ => ⟨S1024x64, .i32⟩
  | .hbm, ⟨49, _⟩ => ⟨S1024x64, .i32⟩
  | .hbm, ⟨50, _⟩ => ⟨S1024x64, .i32⟩
  | .hbm, ⟨51, _⟩ => ⟨S16384, .i32⟩
  | .hbm, ⟨52, _⟩ => ⟨S16384, .i32⟩
  | .hbm, ⟨53, _⟩ => ⟨S16384x512, .f32⟩
  | .hbm, ⟨54, _⟩ => ⟨S1024, .f32⟩
  | .hbm, ⟨55, _⟩ => ⟨S128, .f32⟩
  | .hbm, ⟨56, _⟩ => ⟨S4, .f32⟩
  | .hbm, ⟨57, _⟩ => ⟨S16x1024x512, .f32⟩
  | .hbm, ⟨58, _⟩ => ⟨S1, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S64x256, .f32⟩
  | .local _ .vmem, ⟨4, _⟩ => ⟨S1024x1024, .i32⟩
  | .local _ .vmem, ⟨5, _⟩ => ⟨S1024x64, .i32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S64, .f32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024, .f32⟩
  | .local _ .vmem, ⟨16, _⟩ => ⟨S1024, .i32⟩
  | .local _ .vmem, ⟨17, _⟩ => ⟨S1024, .i32⟩
  | .local _ .vmem, ⟨18, _⟩ => ⟨S1024, .i32⟩
  | .local _ .vmem, ⟨19, _⟩ => ⟨S1024, .i32⟩
  | .local _ .vmem, ⟨20, _⟩ => ⟨S1024x512, .f32⟩
  | .local _ .vmem, ⟨21, _⟩ => ⟨S1024x512, .f32⟩
  | .local _ .vmem, ⟨22, _⟩ => ⟨S1024, .f32⟩
  | .local _ .vmem, ⟨23, _⟩ => ⟨S128, .f32⟩
  | .local _ .smem, ⟨0, _⟩ => ⟨S1, .f32⟩
  | .local _ .smem, ⟨1, _⟩ => ⟨S4, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_cst_2 : Ref sig .tc := ⟨.hbm, 19, rfl⟩
abbrev main_call0_v9 : Ref sig .tc := ⟨.hbm, 20, rfl⟩
abbrev main_call0_v10 : Ref sig .tc := ⟨.hbm, 21, rfl⟩
abbrev main_call0_cst_3 : Ref sig .tc := ⟨.hbm, 22, rfl⟩
abbrev main_call0_v11 : Ref sig .tc := ⟨.hbm, 23, rfl⟩
abbrev main_call0_cst_4 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst_5 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_c : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_c_6 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_v3_0 : Ref sig .tc := ⟨.hbm, 51, rfl⟩
abbrev main_v3_1 : Ref sig .tc := ⟨.hbm, 52, rfl⟩
abbrev main_v3_2 : Ref sig .tc := ⟨.hbm, 53, rfl⟩
abbrev main_call0_v35_3 : Ref sig .tc := ⟨.hbm, 54, rfl⟩
abbrev main_call0_v35_4 : Ref sig .tc := ⟨.hbm, 55, rfl⟩
abbrev main_v3_3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg11_0 : Ref sig .tc := ⟨.smem, 0, rfl⟩
abbrev cc0_stg17_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  ![arg0.toNat]

def cc0_transform_10 (i : grid0.Coords) : Fin 1 → Nat :=
  let arg0 : BitVec 32 := BitVec.ofNat 32 (i 0).val
  let c0_i32 : BitVec 32 := 0#32
  ![arg0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  ![arg0.toNat]

def cc0_transform_13 (i : grid0.Coords) : Fin 1 → Nat :=
  let arg0 : BitVec 32 := BitVec.ofNat 32 (i 0).val
  let c0_i32 : BitVec 32 := 0#32
  ![arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S16x1024x512 : Shape := ⟨3, ![16, 1024, 512]⟩
abbrev S16x1024 : Shape := ⟨2, ![16, 1024]⟩
abbrev S1024x256 : Shape := ⟨2, ![1024, 256]⟩
abbrev S64x256 : Shape := ⟨2, ![64, 256]⟩
abbrev S16384x512 : Shape := ⟨2, ![16384, 512]⟩
abbrev S16384 : Shape := ⟨1, ![16384]⟩
abbrev S_ : Shape := ⟨0, ![]⟩
abbrev S16384x256 : Shape := ⟨2, ![16384, 256]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S64 : Shape := ⟨1, ![64]⟩
abbrev S1x64 : Shape := ⟨2, ![1, 64]⟩
abbrev S16384x64 : Shape := ⟨2, ![16384, 64]⟩
abbrev S256x64 : Shape := ⟨2, ![256, 64]⟩

abbrev nBuf : Space → Nat
  | .hbm => 742
  | .vmem => 0
  | .smem => 0
  | _ => 0

abbrev hbmTy0_0 (i : Nat) : BufTy := match i % 128 with
  | 0 => ⟨S16x1024x512, .f32⟩
  | 1 => ⟨S16x1024, .i1⟩
  | 2 => ⟨S1024x256, .f32⟩
  | 3 => ⟨S64x256, .f32⟩
  | 4 => ⟨S16384x512, .f32⟩
  | 5 => ⟨S16384, .i1⟩
  | 6 => ⟨S16384x512, .f32⟩
  | 7 => ⟨S_, .f32⟩
  | 8 => ⟨S16384, .f32⟩
  | 9 => ⟨S_, .f32⟩
  | 10 => ⟨S16384, .f32⟩
  | 11 => ⟨S16384, .i1⟩
  | 12 => ⟨S16384x256, .f32⟩
  | 13 => ⟨S16384x256, .f32⟩
  | 14 => ⟨S16384x256, .f32⟩
  | 15 => ⟨S_, .f32⟩
  | 16 => ⟨S16384, .f32⟩
  | 17 => ⟨S16384x1, .f32⟩
  | 18 => ⟨S1024x256, .f32⟩
  | 19 => ⟨S_, .f32⟩
  | 20 => ⟨S1024, .f32⟩
  | 21 => ⟨S1x1024, .f32⟩
  | 22 => ⟨S16384x1024, .f32⟩
  | 23 => ⟨S16384x1024, .f32⟩
  | 24 => ⟨S16384x1024, .f32⟩
  | 25 => ⟨S256x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S16384x1024, .f32⟩
  | 32 => ⟨S_, .i1⟩
  | 33 => ⟨S_, .i1⟩
  | 34 => ⟨S1024, .i32⟩
  | 35 => ⟨S_, .i32⟩
  | 36 => ⟨S1024, .i32⟩
  | 37 => ⟨S1024, .i1⟩
  | 38 => ⟨S16384x1, .i1⟩
  | 39 => ⟨S1x1024, .i1⟩
  | 40 => ⟨S16384x1024, .i1⟩
  | 41 => ⟨S16384x1024, .i1⟩
  | 42 => ⟨S16384x1024, .i1⟩
  | 43 => ⟨S_, .f32⟩
  | 44 => ⟨S_, .f32⟩
  | 45 => ⟨S16384x1024, .f32⟩
  | 46 => ⟨S16384x1024, .f32⟩
  | 47 => ⟨S16384, .i1⟩
  | 48 => ⟨S16384x1, .i1⟩
  | 49 => ⟨S1024, .i1⟩
  | 50 => ⟨S1x1024, .i1⟩
  | 51 => ⟨S16384x1024, .i1⟩
  | 52 => ⟨S16384x1024, .i1⟩
  | 53 => ⟨S16384x1024, .i1⟩
  | 54 => ⟨S_, .f32⟩
  | 55 => ⟨S_, .f32⟩
  | 56 => ⟨S16384x1024, .f32⟩
  | 57 => ⟨S16384x1024, .f32⟩
  | 58 => ⟨S16384x1024, .f32⟩
  | 59 => ⟨S16384x1024, .i32⟩
  | 60 => ⟨S_, .i32⟩
  | 61 => ⟨S16384x1024, .i32⟩
  | 62 => ⟨S16384x1024, .i32⟩
  | 63 => ⟨S16384x1024, .i32⟩
  | 64 => ⟨S16384x1024, .i32⟩
  | 65 => ⟨S_, .i32⟩
  | 66 => ⟨S16384x1024, .i32⟩
  | 67 => ⟨S_, .i32⟩
  | 68 => ⟨S16384x1024, .i32⟩
  | 69 => ⟨S16384x1024, .i32⟩
  | 70 => ⟨S_, .i32⟩
  | 71 => ⟨S16384x1024, .i32⟩
  | 72 => ⟨S16384x1024, .i32⟩
  | 73 => ⟨S16384x1024, .i32⟩
  | 74 => ⟨S_, .i32⟩
  | 75 => ⟨S16384x1024, .i32⟩
  | 76 => ⟨S16384x1024, .i32⟩
  | 77 => ⟨S_, .i32⟩
  | 78 => ⟨S16384x1024, .i32⟩
  | 79 => ⟨S16384x1024, .i32⟩
  | 80 => ⟨S16384x1024, .i32⟩
  | 81 => ⟨S16384x1024, .i32⟩
  | 82 => ⟨S16384x1024, .i32⟩
  | 83 => ⟨S_, .i32⟩
  | 84 => ⟨S16384x1024, .i32⟩
  | 85 => ⟨S16384x1024, .i32⟩
  | 86 => ⟨S_, .i32⟩
  | 87 => ⟨S16384x1024, .i32⟩
  | 88 => ⟨S16384x1024, .i32⟩
  | 89 => ⟨S16384x1024, .i32⟩
  | 90 => ⟨S16384x1024, .i32⟩
  | 91 => ⟨S16384x1024, .i32⟩
  | 92 => ⟨S_, .i32⟩
  | 93 => ⟨S16384x1024, .i32⟩
  | 94 => ⟨S16384x1024, .i32⟩
  | 95 => ⟨S_, .i32⟩
  | 96 => ⟨S16384x1024, .i32⟩
  | 97 => ⟨S16384x1024, .i32⟩
  | 98 => ⟨S16384x1024, .i32⟩
  | 99 => ⟨S16384x1024, .i32⟩
  | 100 => ⟨S16384x1024, .i32⟩
  | 101 => ⟨S_, .i32⟩
  | 102 => ⟨S16384x1024, .i32⟩
  | 103 => ⟨S16384x1024, .i32⟩
  | 104 => ⟨S_, .i32⟩
  | 105 => ⟨S16384x1024, .i32⟩
  | 106 => ⟨S16384x1024, .i32⟩
  | 107 => ⟨S16384x1024, .i32⟩
  | 108 => ⟨S16384x1024, .i32⟩
  | 109 => ⟨S_, .i32⟩
  | 110 => ⟨S16384x1024, .i32⟩
  | 111 => ⟨S16384x1024, .i32⟩
  | 112 => ⟨S_, .i32⟩
  | 113 => ⟨S16384x1024, .i32⟩
  | 114 => ⟨S16384x1024, .i32⟩
  | 115 => ⟨S_, .i32⟩
  | 116 => ⟨S16384x1024, .i32⟩
  | 117 => ⟨S16384x1024, .i32⟩
  | 118 => ⟨S16384x1024, .i32⟩
  | 119 => ⟨S_, .i32⟩
  | 120 => ⟨S16384x1024, .i32⟩
  | 121 => ⟨S16384x1024, .i32⟩
  | 122 => ⟨S_, .i32⟩
  | 123 => ⟨S16384x1024, .i32⟩
  | 124 => ⟨S16384x1024, .i32⟩
  | 125 => ⟨S16384x1024, .i32⟩
  | 126 => ⟨S16384x1024, .i32⟩
  | 127 => ⟨S16384x1024, .i32⟩
  | _ => ⟨S16x1024x512, .f32⟩

abbrev hbmTy0_1 (i : Nat) : BufTy := match i % 128 with
  | 0 => ⟨S_, .i32⟩
  | 1 => ⟨S16384x1024, .i32⟩
  | 2 => ⟨S16384x1024, .i32⟩
  | 3 => ⟨S_, .i32⟩
  | 4 => ⟨S16384x1024, .i32⟩
  | 5 => ⟨S16384x1024, .i32⟩
  | 6 => ⟨S16384x1024, .i32⟩
  | 7 => ⟨S16384x1024, .i32⟩
  | 8 => ⟨S16384x1024, .i32⟩
  | 9 => ⟨S_, .i32⟩
  | 10 => ⟨S16384x1024, .i32⟩
  | 11 => ⟨S16384x1024, .i32⟩
  | 12 => ⟨S_, .i32⟩
  | 13 => ⟨S16384x1024, .i32⟩
  | 14 => ⟨S16384x1024, .i32⟩
  | 15 => ⟨S16384x1024, .i32⟩
  | 16 => ⟨S16384x1024, .i32⟩
  | 17 => ⟨S16384x1024, .i32⟩
  | 18 => ⟨S_, .i32⟩
  | 19 => ⟨S16384x1024, .i32⟩
  | 20 => ⟨S16384x1024, .i32⟩
  | 21 => ⟨S_, .i32⟩
  | 22 => ⟨S16384x1024, .i32⟩
  | 23 => ⟨S16384x1024, .i32⟩
  | 24 => ⟨S16384x1024, .i32⟩
  | 25 => ⟨S16384x1024, .i32⟩
  | 26 => ⟨S_, .i32⟩
  | 27 => ⟨S16384x1024, .i32⟩
  | 28 => ⟨S16384x1024, .i32⟩
  | 29 => ⟨S_, .i32⟩
  | 30 => ⟨S16384x1024, .i32⟩
  | 31 => ⟨S16384x1024, .i32⟩
  | 32 => ⟨S_, .i32⟩
  | 33 => ⟨S16384x1024, .i32⟩
  | 34 => ⟨S16384x1024, .i32⟩
  | 35 => ⟨S16384x1024, .i32⟩
  | 36 => ⟨S_, .i32⟩
  | 37 => ⟨S16384x1024, .i32⟩
  | 38 => ⟨S16384x1024, .i32⟩
  | 39 => ⟨S_, .i32⟩
  | 40 => ⟨S16384x1024, .i32⟩
  | 41 => ⟨S16384x1024, .i32⟩
  | 42 => ⟨S16384x1024, .i32⟩
  | 43 => ⟨S16384x1024, .i32⟩
  | 44 => ⟨S16384x1024, .i32⟩
  | 45 => ⟨S_, .i32⟩
  | 46 => ⟨S16384x1024, .i32⟩
  | 47 => ⟨S16384x1024, .i32⟩
  | 48 => ⟨S_, .i32⟩
  | 49 => ⟨S16384x1024, .i32⟩
  | 50 => ⟨S16384x1024, .i32⟩
  | 51 => ⟨S16384x1024, .i32⟩
  | 52 => ⟨S16384x1024, .i32⟩
  | 53 => ⟨S16384x1024, .i32⟩
  | 54 => ⟨S_, .i32⟩
  | 55 => ⟨S16384x1024, .i32⟩
  | 56 => ⟨S16384x1024, .i32⟩
  | 57 => ⟨S_, .i32⟩
  | 58 => ⟨S16384x1024, .i32⟩
  | 59 => ⟨S16384x1024, .i32⟩
  | 60 => ⟨S16384x1024, .i32⟩
  | 61 => ⟨S16384x1024, .i32⟩
  | 62 => ⟨S16384x1024, .i32⟩
  | 63 => ⟨S_, .i32⟩
  | 64 => ⟨S16384x1024, .i32⟩
  | 65 => ⟨S16384x1024, .i32⟩
  | 66 => ⟨S_, .i32⟩
  | 67 => ⟨S16384x1024, .i32⟩
  | 68 => ⟨S16384x1024, .i32⟩
  | 69 => ⟨S16384x1024, .i32⟩
  | 70 => ⟨S16384x1024, .i32⟩
  | 71 => ⟨S_, .i32⟩
  | 72 => ⟨S16384x1024, .i32⟩
  | 73 => ⟨S16384x1024, .i32⟩
  | 74 => ⟨S_, .i32⟩
  | 75 => ⟨S16384x1024, .i32⟩
  | 76 => ⟨S16384x1024, .i32⟩
  | 77 => ⟨S_, .i32⟩
  | 78 => ⟨S16384x1024, .i32⟩
  | 79 => ⟨S16384x1024, .i32⟩
  | 80 => ⟨S16384x1024, .i32⟩
  | 81 => ⟨S_, .i32⟩
  | 82 => ⟨S16384x1024, .i32⟩
  | 83 => ⟨S16384x1024, .i32⟩
  | 84 => ⟨S_, .i32⟩
  | 85 => ⟨S16384x1024, .i32⟩
  | 86 => ⟨S16384x1024, .i32⟩
  | 87 => ⟨S16384x1024, .i32⟩
  | 88 => ⟨S16384x1024, .i32⟩
  | 89 => ⟨S16384x1024, .i32⟩
  | 90 => ⟨S_, .i32⟩
  | 91 => ⟨S16384x1024, .i32⟩
  | 92 => ⟨S16384x1024, .i32⟩
  | 93 => ⟨S_, .i32⟩
  | 94 => ⟨S16384x1024, .i32⟩
  | 95 => ⟨S16384x1024, .i32⟩
  | 96 => ⟨S16384x1024, .i32⟩
  | 97 => ⟨S16384x1024, .i32⟩
  | 98 => ⟨S16384x1024, .i32⟩
  | 99 => ⟨S_, .i32⟩
  | 100 => ⟨S16384x1024, .i32⟩
  | 101 => ⟨S16384x1024, .i32⟩
  | 102 => ⟨S_, .i32⟩
  | 103 => ⟨S16384x1024, .i32⟩
  | 104 => ⟨S16384x1024, .i32⟩
  | 105 => ⟨S16384x1024, .i32⟩
  | 106 => ⟨S16384x1024, .i32⟩
  | 107 => ⟨S16384x1024, .i32⟩
  | 108 => ⟨S_, .i32⟩
  | 109 => ⟨S16384x1024, .i32⟩
  | 110 => ⟨S16384x1024, .i32⟩
  | 111 => ⟨S_, .i32⟩
  | 112 => ⟨S16384x1024, .i32⟩
  | 113 => ⟨S16384x1024, .i32⟩
  | 114 => ⟨S16384x1024, .i32⟩
  | 115 => ⟨S16384x1024, .i32⟩
  | 116 => ⟨S_, .i32⟩
  | 117 => ⟨S16384x1024, .i32⟩
  | 118 => ⟨S16384x1024, .i32⟩
  | 119 => ⟨S_, .i32⟩
  | 120 => ⟨S16384x1024, .i32⟩
  | 121 => ⟨S16384x1024, .i32⟩
  | 122 => ⟨S_, .i32⟩
  | 123 => ⟨S16384x1024, .i32⟩
  | 124 => ⟨S16384x1024, .i32⟩
  | 125 => ⟨S16384x1024, .i32⟩
  | 126 => ⟨S_, .i32⟩
  | 127 => ⟨S16384x1024, .i32⟩
  | _ => ⟨S16x1024x512, .f32⟩

abbrev hbmTy0_2 (i : Nat) : BufTy := match i % 128 with
  | 0 => ⟨S16384x1024, .i32⟩
  | 1 => ⟨S_, .i32⟩
  | 2 => ⟨S16384x1024, .i32⟩
  | 3 => ⟨S16384x1024, .i32⟩
  | 4 => ⟨S16384x1024, .i32⟩
  | 5 => ⟨S16384x1024, .i32⟩
  | 6 => ⟨S16384x1024, .i32⟩
  | 7 => ⟨S_, .i32⟩
  | 8 => ⟨S16384x1024, .i32⟩
  | 9 => ⟨S16384x1024, .i32⟩
  | 10 => ⟨S_, .i32⟩
  | 11 => ⟨S16384x1024, .i32⟩
  | 12 => ⟨S16384x1024, .i32⟩
  | 13 => ⟨S16384x1024, .i32⟩
  | 14 => ⟨S16384x1024, .i32⟩
  | 15 => ⟨S16384x1024, .i32⟩
  | 16 => ⟨S_, .i32⟩
  | 17 => ⟨S16384x1024, .i32⟩
  | 18 => ⟨S16384x1024, .i32⟩
  | 19 => ⟨S_, .i32⟩
  | 20 => ⟨S16384x1024, .i32⟩
  | 21 => ⟨S16384x1024, .i32⟩
  | 22 => ⟨S16384x1024, .i32⟩
  | 23 => ⟨S16384x1024, .i32⟩
  | 24 => ⟨S16384x1024, .i32⟩
  | 25 => ⟨S_, .i32⟩
  | 26 => ⟨S16384x1024, .i32⟩
  | 27 => ⟨S16384x1024, .i32⟩
  | 28 => ⟨S_, .i32⟩
  | 29 => ⟨S16384x1024, .i32⟩
  | 30 => ⟨S16384x1024, .i32⟩
  | 31 => ⟨S16384x1024, .i32⟩
  | 32 => ⟨S16384x1024, .i32⟩
  | 33 => ⟨S_, .i32⟩
  | 34 => ⟨S16384x1024, .i32⟩
  | 35 => ⟨S16384x1024, .i32⟩
  | 36 => ⟨S_, .i32⟩
  | 37 => ⟨S16384x1024, .i32⟩
  | 38 => ⟨S16384x1024, .i32⟩
  | 39 => ⟨S_, .i32⟩
  | 40 => ⟨S16384x1024, .i32⟩
  | 41 => ⟨S16384x1024, .i32⟩
  | 42 => ⟨S16384x1024, .i32⟩
  | 43 => ⟨S_, .i32⟩
  | 44 => ⟨S16384x1024, .i32⟩
  | 45 => ⟨S16384x1024, .i32⟩
  | 46 => ⟨S_, .i32⟩
  | 47 => ⟨S16384x1024, .i32⟩
  | 48 => ⟨S16384x1024, .i32⟩
  | 49 => ⟨S16384x1024, .f32⟩
  | 50 => ⟨S_, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S_, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S_, .f32⟩
  | 71 => ⟨S16384, .f32⟩
  | 72 => ⟨S_, .f32⟩
  | 73 => ⟨S16384, .f32⟩
  | 74 => ⟨S16384, .f32⟩
  | 75 => ⟨S16384x1, .f32⟩
  | 76 => ⟨S16384x1024, .f32⟩
  | 77 => ⟨S16384x1024, .f32⟩
  | 78 => ⟨S16384x1024, .f32⟩
  | 79 => ⟨S_, .f32⟩
  | 80 => ⟨S16384, .f32⟩
  | 81 => ⟨S16384x1, .f32⟩
  | 82 => ⟨S16384x1024, .f32⟩
  | 83 => ⟨S16384x1024, .f32⟩
  | 84 => ⟨S_, .f32⟩
  | 85 => ⟨S16384, .f32⟩
  | 86 => ⟨S16384x1, .f32⟩
  | 87 => ⟨S16384x1024, .f32⟩
  | 88 => ⟨S16384x1024, .i1⟩
  | 89 => ⟨S16384x1024, .i32⟩
  | 90 => ⟨S_, .i32⟩
  | 91 => ⟨S_, .i32⟩
  | 92 => ⟨S16384x1024, .i32⟩
  | 93 => ⟨S16384x1024, .i32⟩
  | 94 => ⟨S_, .i32⟩
  | 95 => ⟨S16384, .i32⟩
  | 96 => ⟨S16384x1, .i32⟩
  | 97 => ⟨S1x1024, .i32⟩
  | 98 => ⟨S16384x1024, .i32⟩
  | 99 => ⟨S16384x1024, .i32⟩
  | 100 => ⟨S16384x1024, .i1⟩
  | 101 => ⟨S16384x1024, .f32⟩
  | 102 => ⟨S16384x1024, .f32⟩
  | 103 => ⟨S16384x1024, .f32⟩
  | 104 => ⟨S16384x256, .f32⟩
  | 105 => ⟨S16384, .f32⟩
  | 106 => ⟨S16384x1, .f32⟩
  | 107 => ⟨S16384x1024, .f32⟩
  | 108 => ⟨S16384x1024, .f32⟩
  | 109 => ⟨S_, .f32⟩
  | 110 => ⟨S1024, .f32⟩
  | 111 => ⟨S_, .f32⟩
  | 112 => ⟨S_, .f32⟩
  | 113 => ⟨S_, .f32⟩
  | 114 => ⟨S_, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S1024, .f32⟩
  | 122 => ⟨S_, .f32⟩
  | 123 => ⟨S_, .f32⟩
  | 124 => ⟨S_, .f32⟩
  | 125 => ⟨S_, .f32⟩
  | 126 => ⟨S16384x256, .f32⟩
  | 127 => ⟨S_, .f32⟩
  | _ => ⟨S16x1024x512, .f32⟩

abbrev hbmTy0_3 (i : Nat) : BufTy := match i % 128 with
  | 0 => ⟨S16384, .f32⟩
  | 1 => ⟨S16384x1, .f32⟩
  | 2 => ⟨S64x256, .f32⟩
  | 3 => ⟨S_, .f32⟩
  | 4 => ⟨S64, .f32⟩
  | 5 => ⟨S1x64, .f32⟩
  | 6 => ⟨S16384x64, .f32⟩
  | 7 => ⟨S16384x64, .f32⟩
  | 8 => ⟨S16384x64, .f32⟩
  | 9 => ⟨S256x64, .f32⟩
  | 10 => ⟨S16384x64, .f32⟩
  | 11 => ⟨S_, .f32⟩
  | 12 => ⟨S16384x64, .f32⟩
  | 13 => ⟨S16384x64, .f32⟩
  | 14 => ⟨S16384x64, .f32⟩
  | 15 => ⟨S16384x64, .f32⟩
  | 16 => ⟨S16384x64, .i32⟩
  | 17 => ⟨S_, .i32⟩
  | 18 => ⟨S16384x64, .i32⟩
  | 19 => ⟨S16384x64, .i32⟩
  | 20 => ⟨S16384x64, .i32⟩
  | 21 => ⟨S16384x64, .i32⟩
  | 22 => ⟨S_, .i32⟩
  | 23 => ⟨S16384x64, .i32⟩
  | 24 => ⟨S_, .i32⟩
  | 25 => ⟨S16384x64, .i32⟩
  | 26 => ⟨S16384x64, .i32⟩
  | 27 => ⟨S_, .i32⟩
  | 28 => ⟨S16384x64, .i32⟩
  | 29 => ⟨S16384x64, .i32⟩
  | 30 => ⟨S16384x64, .i32⟩
  | 31 => ⟨S_, .i32⟩
  | 32 => ⟨S16384x64, .i32⟩
  | 33 => ⟨S16384x64, .i32⟩
  | 34 => ⟨S_, .i32⟩
  | 35 => ⟨S16384x64, .i32⟩
  | 36 => ⟨S16384x64, .i32⟩
  | 37 => ⟨S16384x64, .i32⟩
  | 38 => ⟨S16384x64, .i32⟩
  | 39 => ⟨S16384x64, .i32⟩
  | 40 => ⟨S_, .i32⟩
  | 41 => ⟨S16384x64, .i32⟩
  | 42 => ⟨S16384x64, .i32⟩
  | 43 => ⟨S_, .i32⟩
  | 44 => ⟨S16384x64, .i32⟩
  | 45 => ⟨S16384x64, .i32⟩
  | 46 => ⟨S16384x64, .i32⟩
  | 47 => ⟨S16384x64, .i32⟩
  | 48 => ⟨S16384x64, .i32⟩
  | 49 => ⟨S_, .i32⟩
  | 50 => ⟨S16384x64, .i32⟩
  | 51 => ⟨S16384x64, .i32⟩
  | 52 => ⟨S_, .i32⟩
  | 53 => ⟨S16384x64, .i32⟩
  | 54 => ⟨S16384x64, .i32⟩
  | 55 => ⟨S16384x64, .i32⟩
  | 56 => ⟨S16384x64, .i32⟩
  | 57 => ⟨S16384x64, .i32⟩
  | 58 => ⟨S_, .i32⟩
  | 59 => ⟨S16384x64, .i32⟩
  | 60 => ⟨S16384x64, .i32⟩
  | 61 => ⟨S_, .i32⟩
  | 62 => ⟨S16384x64, .i32⟩
  | 63 => ⟨S16384x64, .i32⟩
  | 64 => ⟨S16384x64, .i32⟩
  | 65 => ⟨S16384x64, .i32⟩
  | 66 => ⟨S_, .i32⟩
  | 67 => ⟨S16384x64, .i32⟩
  | 68 => ⟨S16384x64, .i32⟩
  | 69 => ⟨S_, .i32⟩
  | 70 => ⟨S16384x64, .i32⟩
  | 71 => ⟨S16384x64, .i32⟩
  | 72 => ⟨S_, .i32⟩
  | 73 => ⟨S16384x64, .i32⟩
  | 74 => ⟨S16384x64, .i32⟩
  | 75 => ⟨S16384x64, .i32⟩
  | 76 => ⟨S_, .i32⟩
  | 77 => ⟨S16384x64, .i32⟩
  | 78 => ⟨S16384x64, .i32⟩
  | 79 => ⟨S_, .i32⟩
  | 80 => ⟨S16384x64, .i32⟩
  | 81 => ⟨S16384x64, .i32⟩
  | 82 => ⟨S16384x64, .i32⟩
  | 83 => ⟨S16384x64, .i32⟩
  | 84 => ⟨S16384x64, .i32⟩
  | 85 => ⟨S_, .i32⟩
  | 86 => ⟨S16384x64, .i32⟩
  | 87 => ⟨S16384x64, .i32⟩
  | 88 => ⟨S_, .i32⟩
  | 89 => ⟨S16384x64, .i32⟩
  | 90 => ⟨S16384x64, .i32⟩
  | 91 => ⟨S16384x64, .i32⟩
  | 92 => ⟨S16384x64, .i32⟩
  | 93 => ⟨S16384x64, .i32⟩
  | 94 => ⟨S_, .i32⟩
  | 95 => ⟨S16384x64, .i32⟩
  | 96 => ⟨S16384x64, .i32⟩
  | 97 => ⟨S_, .i32⟩
  | 98 => ⟨S16384x64, .i32⟩
  | 99 => ⟨S16384x64, .i32⟩
  | 100 => ⟨S16384x64, .i32⟩
  | 101 => ⟨S16384x64, .i32⟩
  | 102 => ⟨S16384x64, .i32⟩
  | 103 => ⟨S_, .i32⟩
  | 104 => ⟨S16384x64, .i32⟩
  | 105 => ⟨S16384x64, .i32⟩
  | 106 => ⟨S_, .i32⟩
  | 107 => ⟨S16384x64, .i32⟩
  | 108 => ⟨S16384x64, .i32⟩
  | 109 => ⟨S16384x64, .i32⟩
  | 110 => ⟨S16384x64, .i32⟩
  | 111 => ⟨S_, .i32⟩
  | 112 => ⟨S16384x64, .i32⟩
  | 113 => ⟨S16384x64, .i32⟩
  | 114 => ⟨S_, .i32⟩
  | 115 => ⟨S16384x64, .i32⟩
  | 116 => ⟨S16384x64, .i32⟩
  | 117 => ⟨S_, .i32⟩
  | 118 => ⟨S16384x64, .i32⟩
  | 119 => ⟨S16384x64, .i32⟩
  | 120 => ⟨S16384x64, .i32⟩
  | 121 => ⟨S_, .i32⟩
  | 122 => ⟨S16384x64, .i32⟩
  | 123 => ⟨S16384x64, .i32⟩
  | 124 => ⟨S_, .i32⟩
  | 125 => ⟨S16384x64, .i32⟩
  | 126 => ⟨S16384x64, .i32⟩
  | 127 => ⟨S16384x64, .i32⟩
  | _ => ⟨S16x1024x512, .f32⟩

abbrev hbmTy0_4 (i : Nat) : BufTy := match i % 128 with
  | 0 => ⟨S16384x64, .i32⟩
  | 1 => ⟨S16384x64, .i32⟩
  | 2 => ⟨S_, .i32⟩
  | 3 => ⟨S16384x64, .i32⟩
  | 4 => ⟨S16384x64, .i32⟩
  | 5 => ⟨S_, .i32⟩
  | 6 => ⟨S16384x64, .i32⟩
  | 7 => ⟨S16384x64, .i32⟩
  | 8 => ⟨S16384x64, .i32⟩
  | 9 => ⟨S16384x64, .i32⟩
  | 10 => ⟨S16384x64, .i32⟩
  | 11 => ⟨S_, .i32⟩
  | 12 => ⟨S16384x64, .i32⟩
  | 13 => ⟨S16384x64, .i32⟩
  | 14 => ⟨S_, .i32⟩
  | 15 => ⟨S16384x64, .i32⟩
  | 16 => ⟨S16384x64, .i32⟩
  | 17 => ⟨S16384x64, .i32⟩
  | 18 => ⟨S16384x64, .i32⟩
  | 19 => ⟨S16384x64, .i32⟩
  | 20 => ⟨S_, .i32⟩
  | 21 => ⟨S16384x64, .i32⟩
  | 22 => ⟨S16384x64, .i32⟩
  | 23 => ⟨S_, .i32⟩
  | 24 => ⟨S16384x64, .i32⟩
  | 25 => ⟨S16384x64, .i32⟩
  | 26 => ⟨S16384x64, .i32⟩
  | 27 => ⟨S16384x64, .i32⟩
  | 28 => ⟨S_, .i32⟩
  | 29 => ⟨S16384x64, .i32⟩
  | 30 => ⟨S16384x64, .i32⟩
  | 31 => ⟨S_, .i32⟩
  | 32 => ⟨S16384x64, .i32⟩
  | 33 => ⟨S16384x64, .i32⟩
  | 34 => ⟨S_, .i32⟩
  | 35 => ⟨S16384x64, .i32⟩
  | 36 => ⟨S16384x64, .i32⟩
  | 37 => ⟨S16384x64, .i32⟩
  | 38 => ⟨S_, .i32⟩
  | 39 => ⟨S16384x64, .i32⟩
  | 40 => ⟨S16384x64, .i32⟩
  | 41 => ⟨S_, .i32⟩
  | 42 => ⟨S16384x64, .i32⟩
  | 43 => ⟨S16384x64, .i32⟩
  | 44 => ⟨S16384x64, .i32⟩
  | 45 => ⟨S16384x64, .i32⟩
  | 46 => ⟨S16384x64, .i32⟩
  | 47 => ⟨S_, .i32⟩
  | 48 => ⟨S16384x64, .i32⟩
  | 49 => ⟨S16384x64, .i32⟩
  | 50 => ⟨S_, .i32⟩
  | 51 => ⟨S16384x64, .i32⟩
  | 52 => ⟨S16384x64, .i32⟩
  | 53 => ⟨S16384x64, .i32⟩
  | 54 => ⟨S16384x64, .i32⟩
  | 55 => ⟨S16384x64, .i32⟩
  | 56 => ⟨S_, .i32⟩
  | 57 => ⟨S16384x64, .i32⟩
  | 58 => ⟨S16384x64, .i32⟩
  | 59 => ⟨S_, .i32⟩
  | 60 => ⟨S16384x64, .i32⟩
  | 61 => ⟨S16384x64, .i32⟩
  | 62 => ⟨S16384x64, .i32⟩
  | 63 => ⟨S16384x64, .i32⟩
  | 64 => ⟨S16384x64, .i32⟩
  | 65 => ⟨S_, .i32⟩
  | 66 => ⟨S16384x64, .i32⟩
  | 67 => ⟨S16384x64, .i32⟩
  | 68 => ⟨S_, .i32⟩
  | 69 => ⟨S16384x64, .i32⟩
  | 70 => ⟨S16384x64, .i32⟩
  | 71 => ⟨S16384x64, .i32⟩
  | 72 => ⟨S16384x64, .i32⟩
  | 73 => ⟨S_, .i32⟩
  | 74 => ⟨S16384x64, .i32⟩
  | 75 => ⟨S16384x64, .i32⟩
  | 76 => ⟨S_, .i32⟩
  | 77 => ⟨S16384x64, .i32⟩
  | 78 => ⟨S16384x64, .i32⟩
  | 79 => ⟨S_, .i32⟩
  | 80 => ⟨S16384x64, .i32⟩
  | 81 => ⟨S16384x64, .i32⟩
  | 82 => ⟨S16384x64, .i32⟩
  | 83 => ⟨S_, .i32⟩
  | 84 => ⟨S16384x64, .i32⟩
  | 85 => ⟨S16384x64, .i32⟩
  | 86 => ⟨S_, .i32⟩
  | 87 => ⟨S16384x64, .i32⟩
  | 88 => ⟨S16384x64, .i32⟩
  | 89 => ⟨S16384x64, .i32⟩
  | 90 => ⟨S16384x64, .i32⟩
  | 91 => ⟨S16384x64, .i32⟩
  | 92 => ⟨S_, .i32⟩
  | 93 => ⟨S16384x64, .i32⟩
  | 94 => ⟨S16384x64, .i32⟩
  | 95 => ⟨S_, .i32⟩
  | 96 => ⟨S16384x64, .i32⟩
  | 97 => ⟨S16384x64, .i32⟩
  | 98 => ⟨S16384x64, .i32⟩
  | 99 => ⟨S16384x64, .i32⟩
  | 100 => ⟨S16384x64, .i32⟩
  | 101 => ⟨S_, .i32⟩
  | 102 => ⟨S16384x64, .i32⟩
  | 103 => ⟨S16384x64, .i32⟩
  | 104 => ⟨S_, .i32⟩
  | 105 => ⟨S16384x64, .i32⟩
  | 106 => ⟨S16384x64, .i32⟩
  | 107 => ⟨S16384x64, .i32⟩
  | 108 => ⟨S16384x64, .i32⟩
  | 109 => ⟨S16384x64, .i32⟩
  | 110 => ⟨S_, .i32⟩
  | 111 => ⟨S16384x64, .i32⟩
  | 112 => ⟨S16384x64, .i32⟩
  | 113 => ⟨S_, .i32⟩
  | 114 => ⟨S16384x64, .i32⟩
  | 115 => ⟨S16384x64, .i32⟩
  | 116 => ⟨S16384x64, .i32⟩
  | 117 => ⟨S16384x64, .i32⟩
  | 118 => ⟨S_, .i32⟩
  | 119 => ⟨S16384x64, .i32⟩
  | 120 => ⟨S16384x64, .i32⟩
  | 121 => ⟨S_, .i32⟩
  | 122 => ⟨S16384x64, .i32⟩
  | 123 => ⟨S16384x64, .i32⟩
  | 124 => ⟨S_, .i32⟩
  | 125 => ⟨S16384x64, .i32⟩
  | 126 => ⟨S16384x64, .i32⟩
  | 127 => ⟨S16384x64, .i32⟩
  | _ => ⟨S16x1024x512, .f32⟩

abbrev hbmTy0_5 (i : Nat) : BufTy := match i % 128 with
  | 0 => ⟨S_, .i32⟩
  | 1 => ⟨S16384x64, .i32⟩
  | 2 => ⟨S16384x64, .i32⟩
  | 3 => ⟨S_, .i32⟩
  | 4 => ⟨S16384x64, .i32⟩
  | 5 => ⟨S16384x64, .i32⟩
  | 6 => ⟨S16384x64, .f32⟩
  | 7 => ⟨S_, .f32⟩
  | 8 => ⟨S16384x64, .f32⟩
  | 9 => ⟨S16384x64, .f32⟩
  | 10 => ⟨S_, .f32⟩
  | 11 => ⟨S16384x64, .f32⟩
  | 12 => ⟨S16384x64, .f32⟩
  | 13 => ⟨S_, .f32⟩
  | 14 => ⟨S16384x64, .f32⟩
  | 15 => ⟨S16384x64, .f32⟩
  | 16 => ⟨S_, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S16384x64, .f32⟩
  | 23 => ⟨S16384x64, .f32⟩
  | 24 => ⟨S_, .f32⟩
  | 25 => ⟨S16384x64, .f32⟩
  | 26 => ⟨S16384x64, .f32⟩
  | 27 => ⟨S_, .f32⟩
  | 28 => ⟨S16384, .f32⟩
  | 29 => ⟨S_, .f32⟩
  | 30 => ⟨S16384, .f32⟩
  | 31 => ⟨S16384, .f32⟩
  | 32 => ⟨S16384x1, .f32⟩
  | 33 => ⟨S16384x64, .f32⟩
  | 34 => ⟨S16384x64, .f32⟩
  | 35 => ⟨S16384x64, .f32⟩
  | 36 => ⟨S_, .f32⟩
  | 37 => ⟨S16384, .f32⟩
  | 38 => ⟨S16384x1, .f32⟩
  | 39 => ⟨S16384x64, .f32⟩
  | 40 => ⟨S16384x64, .f32⟩
  | 41 => ⟨S_, .f32⟩
  | 42 => ⟨S16384, .f32⟩
  | 43 => ⟨S16384x1, .f32⟩
  | 44 => ⟨S16384x64, .f32⟩
  | 45 => ⟨S16384x64, .i1⟩
  | 46 => ⟨S16384x64, .i32⟩
  | 47 => ⟨S_, .i32⟩
  | 48 => ⟨S_, .i32⟩
  | 49 => ⟨S16384x64, .i32⟩
  | 50 => ⟨S16384x64, .i32⟩
  | 51 => ⟨S_, .i32⟩
  | 52 => ⟨S16384, .i32⟩
  | 53 => ⟨S16384x1, .i32⟩
  | 54 => ⟨S1x64, .i32⟩
  | 55 => ⟨S16384x64, .i32⟩
  | 56 => ⟨S16384x64, .i32⟩
  | 57 => ⟨S16384x64, .i1⟩
  | 58 => ⟨S16384x64, .f32⟩
  | 59 => ⟨S16384x64, .f32⟩
  | 60 => ⟨S16384x64, .f32⟩
  | 61 => ⟨S16384x256, .f32⟩
  | 62 => ⟨S16384, .f32⟩
  | 63 => ⟨S16384x1, .f32⟩
  | 64 => ⟨S16384x64, .f32⟩
  | 65 => ⟨S16384x64, .f32⟩
  | 66 => ⟨S_, .f32⟩
  | 67 => ⟨S64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S64, .f32⟩
  | 78 => ⟨S64, .f32⟩
  | 79 => ⟨S_, .f32⟩
  | 80 => ⟨S_, .f32⟩
  | 81 => ⟨S_, .f32⟩
  | 82 => ⟨S_, .f32⟩
  | 83 => ⟨S16384x512, .f32⟩
  | 84 => ⟨S16384x512, .f32⟩
  | 85 => ⟨S16384x512, .f32⟩
  | 86 => ⟨S_, .f32⟩
  | 87 => ⟨S_, .f32⟩
  | 88 => ⟨S_, .f32⟩
  | 89 => ⟨S_, .f32⟩
  | 90 => ⟨S16384x512, .f32⟩
  | 91 => ⟨S16384x512, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16384x512, .f32⟩
  | 100 => ⟨S16384x512, .f32⟩
  | 101 => ⟨S16x1024x512, .f32⟩
  | _ => ⟨S16x1024x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x1024x512, .f32⟩

abbrev bufTy : (tb : Table) → Fin (tcTables nBuf tb) → BufTy
  | .hbm, ⟨i, _⟩ => hbmTy i
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_19 : Ref sig .tc := ⟨.hbm, 109, rfl⟩
abbrev main_v80 : Ref sig .tc := ⟨.hbm, 110, rfl⟩
abbrev main_v81 : Ref sig .tc := ⟨.hbm, 111, rfl⟩
abbrev main_c_20 : Ref sig .tc := ⟨.hbm, 112, rfl⟩
abbrev main_v82 : Ref sig .tc := ⟨.hbm, 113, rfl⟩
abbrev main_v83 : Ref sig .tc := ⟨.hbm, 114, rfl⟩
abbrev main_c_21 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_22 : Ref sig .tc := ⟨.hbm, 119, rfl⟩
abbrev main_v87 : Ref sig .tc := ⟨.hbm, 120, rfl⟩
abbrev main_v88 : Ref sig .tc := ⟨.hbm, 121, rfl⟩
abbrev main_c_23 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_24 : Ref sig .tc := ⟨.hbm, 128, rfl⟩
abbrev main_v94 : Ref sig .tc := ⟨.hbm, 129, rfl⟩
abbrev main_v95 : Ref sig .tc := ⟨.hbm, 130, rfl⟩
abbrev main_c_25 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_26 : Ref sig .tc := ⟨.hbm, 137, rfl⟩
abbrev main_v101 : Ref sig .tc := ⟨.hbm, 138, rfl⟩
abbrev main_v102 : Ref sig .tc := ⟨.hbm, 139, rfl⟩
abbrev main_c_27 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_28 : Ref sig .tc := ⟨.hbm, 146, rfl⟩
abbrev main_v108 : Ref sig .tc := ⟨.hbm, 147, rfl⟩
abbrev main_v109 : Ref sig .tc := ⟨.hbm, 148, rfl⟩
abbrev main_c_29 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_30 : Ref sig .tc := ⟨.hbm, 154, rfl⟩
abbrev main_v114 : Ref sig .tc := ⟨.hbm, 155, rfl⟩
abbrev main_v115 : Ref sig .tc := ⟨.hbm, 156, rfl⟩
abbrev main_c_31 : Ref sig .tc := ⟨.hbm, 157, rfl⟩
abbrev main_v116 : Ref sig .tc := ⟨.hbm, 158, rfl⟩
abbrev main_v117 : Ref sig .tc := ⟨.hbm, 159, rfl⟩
abbrev main_c_32 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_33 : Ref sig .tc := ⟨.hbm, 164, rfl⟩
abbrev main_v121 : Ref sig .tc := ⟨.hbm, 165, rfl⟩
abbrev main_v122 : Ref sig .tc := ⟨.hbm, 166, rfl⟩
abbrev main_c_34 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_c_35 : Ref sig .tc := ⟨.hbm, 173, rfl⟩
abbrev main_v128 : Ref sig .tc := ⟨.hbm, 174, rfl⟩
abbrev main_v129 : Ref sig .tc := ⟨.hbm, 175, rfl⟩
abbrev main_c_36 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_c_37 : Ref sig .tc := ⟨.hbm, 182, rfl⟩
abbrev main_v135 : Ref sig .tc := ⟨.hbm, 183, rfl⟩
abbrev main_v136 : Ref sig .tc := ⟨.hbm, 184, rfl⟩
abbrev main_c_38 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_c_39 : Ref sig .tc := ⟨.hbm, 191, rfl⟩
abbrev main_v142 : Ref sig .tc := ⟨.hbm, 192, rfl⟩
abbrev main_v143 : Ref sig .tc := ⟨.hbm, 193, rfl⟩
abbrev main_c_40 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_41 : Ref sig .tc := ⟨.hbm, 199, rfl⟩
abbrev main_v148 : Ref sig .tc := ⟨.hbm, 200, rfl⟩
abbrev main_v149 : Ref sig .tc := ⟨.hbm, 201, rfl⟩
abbrev main_c_42 : Ref sig .tc := ⟨.hbm, 202, rfl⟩
abbrev main_v150 : Ref sig .tc := ⟨.hbm, 203, rfl⟩
abbrev main_v151 : Ref sig .tc := ⟨.hbm, 204, rfl⟩
abbrev main_c_43 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_c_44 : Ref sig .tc := ⟨.hbm, 209, rfl⟩
abbrev main_v155 : Ref sig .tc := ⟨.hbm, 210, rfl⟩
abbrev main_v156 : Ref sig .tc := ⟨.hbm, 211, rfl⟩
abbrev main_c_45 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_c_46 : Ref sig .tc := ⟨.hbm, 218, rfl⟩
abbrev main_v162 : Ref sig .tc := ⟨.hbm, 219, rfl⟩
abbrev main_v163 : Ref sig .tc := ⟨.hbm, 220, rfl⟩
abbrev main_c_47 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_c_48 : Ref sig .tc := ⟨.hbm, 227, rfl⟩
abbrev main_v169 : Ref sig .tc := ⟨.hbm, 228, rfl⟩
abbrev main_v170 : Ref sig .tc := ⟨.hbm, 229, rfl⟩
abbrev main_c_49 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_c_50 : Ref sig .tc := ⟨.hbm, 236, rfl⟩
abbrev main_v176 : Ref sig .tc := ⟨.hbm, 237, rfl⟩
abbrev main_v177 : Ref sig .tc := ⟨.hbm, 238, rfl⟩
abbrev main_c_51 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_c_52 : Ref sig .tc := ⟨.hbm, 244, rfl⟩
abbrev main_v182 : Ref sig .tc := ⟨.hbm, 245, rfl⟩
abbrev main_v183 : Ref sig .tc := ⟨.hbm, 246, rfl⟩
abbrev main_c_53 : Ref sig .tc := ⟨.hbm, 247, rfl⟩
abbrev main_v184 : Ref sig .tc := ⟨.hbm, 248, rfl⟩
abbrev main_v185 : Ref sig .tc := ⟨.hbm, 249, rfl⟩
abbrev main_c_54 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_c_55 : Ref sig .tc := ⟨.hbm, 254, rfl⟩
abbrev main_v189 : Ref sig .tc := ⟨.hbm, 255, rfl⟩
abbrev main_v190 : Ref sig .tc := ⟨.hbm, 256, rfl⟩
abbrev main_c_56 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_c_57 : Ref sig .tc := ⟨.hbm, 263, rfl⟩
abbrev main_v196 : Ref sig .tc := ⟨.hbm, 264, rfl⟩
abbrev main_v197 : Ref sig .tc := ⟨.hbm, 265, rfl⟩
abbrev main_c_58 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_c_59 : Ref sig .tc := ⟨.hbm, 272, rfl⟩
abbrev main_v203 : Ref sig .tc := ⟨.hbm, 273, rfl⟩
abbrev main_v204 : Ref sig .tc := ⟨.hbm, 274, rfl⟩
abbrev main_c_60 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_c_61 : Ref sig .tc := ⟨.hbm, 281, rfl⟩
abbrev main_v210 : Ref sig .tc := ⟨.hbm, 282, rfl⟩
abbrev main_v211 : Ref sig .tc := ⟨.hbm, 283, rfl⟩
abbrev main_c_62 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_c_63 : Ref sig .tc := ⟨.hbm, 289, rfl⟩
abbrev main_v216 : Ref sig .tc := ⟨.hbm, 290, rfl⟩
abbrev main_v217 : Ref sig .tc := ⟨.hbm, 291, rfl⟩
abbrev main_c_64 : Ref sig .tc := ⟨.hbm, 292, rfl⟩
abbrev main_v218 : Ref sig .tc := ⟨.hbm, 293, rfl⟩
abbrev main_v219 : Ref sig .tc := ⟨.hbm, 294, rfl⟩
abbrev main_c_65 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_c_66 : Ref sig .tc := ⟨.hbm, 299, rfl⟩
abbrev main_v223 : Ref sig .tc := ⟨.hbm, 300, rfl⟩
abbrev main_v224 : Ref sig .tc := ⟨.hbm, 301, rfl⟩
abbrev main_c_67 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_cst_68 : Ref sig .tc := ⟨.hbm, 306, rfl⟩
abbrev main_v228 : Ref sig .tc := ⟨.hbm, 307, rfl⟩
abbrev main_v229 : Ref sig .tc := ⟨.hbm, 308, rfl⟩
abbrev main_cst_69 : Ref sig .tc := ⟨.hbm, 309, rfl⟩
abbrev main_v230 : Ref sig .tc := ⟨.hbm, 310, rfl⟩
abbrev main_v231 : Ref sig .tc := ⟨.hbm, 311, rfl⟩
abbrev main_cst_70 : Ref sig .tc := ⟨.hbm, 312, rfl⟩
abbrev main_v232 : Ref sig .tc := ⟨.hbm, 313, rfl⟩
abbrev main_v233 : Ref sig .tc := ⟨.hbm, 314, rfl⟩
abbrev main_cst_71 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_cst_72 : Ref sig .tc := ⟨.hbm, 323, rfl⟩
abbrev main_v241 : Ref sig .tc := ⟨.hbm, 324, rfl⟩
abbrev main_v242 : Ref sig .tc := ⟨.hbm, 325, rfl⟩
abbrev main_cst_73 : Ref sig .tc := ⟨.hbm, 326, rfl⟩
abbrev main_v243 : Ref sig .tc := ⟨.hbm, 327, rfl⟩
abbrev main_cst_74 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_cst_75 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_cst_76 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_c_77 : Ref sig .tc := ⟨.hbm, 346, rfl⟩
abbrev main_call3_v0 : Ref sig .tc := ⟨.hbm, 347, rfl⟩
abbrev main_call3_v1 : Ref sig .tc := ⟨.hbm, 348, rfl⟩
abbrev main_v259 : Ref sig .tc := ⟨.hbm, 349, rfl⟩
abbrev main_c_78 : Ref sig .tc := ⟨.hbm, 350, rfl⟩
abbrev main_v260 : Ref sig .tc := ⟨.hbm, 351, rfl⟩
abbrev main_call4_v0 : Ref sig .tc := ⟨.hbm, 352, rfl⟩
abbrev main_call4_v1 : Ref sig .tc := ⟨.hbm, 353, rfl⟩
abbrev main_call4_v2 : Ref sig .tc := ⟨.hbm, 354, rfl⟩
abbrev main_call4_v3 : Ref sig .tc := ⟨.hbm, 355, rfl⟩
abbrev main_call4_v4 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_cst_79 : Ref sig .tc := ⟨.hbm, 365, rfl⟩
abbrev main_v269 : Ref sig .tc := ⟨.hbm, 366, rfl⟩
abbrev main_cst_80 : Ref sig .tc := ⟨.hbm, 367, rfl⟩
abbrev main_v270 : Ref sig .tc := ⟨.hbm, 368, rfl⟩
abbrev main_cst_81 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_cst_82 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_cst_83 : Ref sig .tc := ⟨.hbm, 378, rfl⟩
abbrev main_v278 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_cst_84 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_cst_85 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_v289 : Ref sig .tc := ⟨.hbm, 392, rfl⟩
abbrev main_v290 : Ref sig .tc := ⟨.hbm, 393, rfl⟩
abbrev main_v291 : Ref sig .tc := ⟨.hbm, 394, rfl⟩
abbrev main_cst_86 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_c_87 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_c_88 : Ref sig .tc := ⟨.hbm, 406, rfl⟩
abbrev main_v301 : Ref sig .tc := ⟨.hbm, 407, rfl⟩
abbrev main_c_89 : Ref sig .tc := ⟨.hbm, 408, rfl⟩
abbrev main_v302 : Ref sig .tc := ⟨.hbm, 409, rfl⟩
abbrev main_v303 : Ref sig .tc := ⟨.hbm, 410, rfl⟩
abbrev main_c_90 : Ref sig .tc := ⟨.hbm, 411, rfl⟩
abbrev main_v304 : Ref sig .tc := ⟨.hbm, 412, rfl⟩
abbrev main_v305 : Ref sig .tc := ⟨.hbm, 413, rfl⟩
abbrev main_v306 : Ref sig .tc := ⟨.hbm, 414, rfl⟩
abbrev main_c_91 : Ref sig .tc := ⟨.hbm, 415, rfl⟩
abbrev main_v307 : Ref sig .tc := ⟨.hbm, 416, rfl⟩
abbrev main_v308 : Ref sig .tc := ⟨.hbm, 417, rfl⟩
abbrev main_c_92 : Ref sig .tc := ⟨.hbm, 418, rfl⟩
abbrev main_v309 : Ref sig .tc := ⟨.hbm, 419, rfl⟩
abbrev main_v310 : Ref sig .tc := ⟨.hbm, 420, rfl⟩
abbrev main_v311 : Ref sig .tc := ⟨.hbm, 421, rfl⟩
abbrev main_v312 : Ref sig .tc := ⟨.hbm, 422, rfl⟩
abbrev main_v313 : Ref sig .tc := ⟨.hbm, 423, rfl⟩
abbrev main_c_93 : Ref sig .tc := ⟨.hbm, 424, rfl⟩
abbrev main_v314 : Ref sig .tc := ⟨.hbm, 425, rfl⟩
abbrev main_v315 : Ref sig .tc := ⟨.hbm, 426, rfl⟩
abbrev main_c_94 : Ref sig .tc := ⟨.hbm, 427, rfl⟩
abbrev main_v316 : Ref sig .tc := ⟨.hbm, 428, rfl⟩
abbrev main_v317 : Ref sig .tc := ⟨.hbm, 429, rfl⟩
abbrev main_v318 : Ref sig .tc := ⟨.hbm, 430, rfl⟩
abbrev main_v319 : Ref sig .tc := ⟨.hbm, 431, rfl⟩
abbrev main_v320 : Ref sig .tc := ⟨.hbm, 432, rfl⟩
abbrev main_c_95 : Ref sig .tc := ⟨.hbm, 433, rfl⟩
abbrev main_v321 : Ref sig .tc := ⟨.hbm, 434, rfl⟩
abbrev main_v322 : Ref sig .tc := ⟨.hbm, 435, rfl⟩
abbrev main_c_96 : Ref sig .tc := ⟨.hbm, 436, rfl⟩
abbrev main_v323 : Ref sig .tc := ⟨.hbm, 437, rfl⟩
abbrev main_v324 : Ref sig .tc := ⟨.hbm, 438, rfl⟩
abbrev main_v325 : Ref sig .tc := ⟨.hbm, 439, rfl⟩
abbrev main_v326 : Ref sig .tc := ⟨.hbm, 440, rfl⟩
abbrev main_v327 : Ref sig .tc := ⟨.hbm, 441, rfl⟩
abbrev main_c_97 : Ref sig .tc := ⟨.hbm, 442, rfl⟩
abbrev main_v328 : Ref sig .tc := ⟨.hbm, 443, rfl⟩
abbrev main_v329 : Ref sig .tc := ⟨.hbm, 444, rfl⟩
abbrev main_c_98 : Ref sig .tc := ⟨.hbm, 445, rfl⟩
abbrev main_v330 : Ref sig .tc := ⟨.hbm, 446, rfl⟩
abbrev main_v331 : Ref sig .tc := ⟨.hbm, 447, rfl⟩
abbrev main_v332 : Ref sig .tc := ⟨.hbm, 448, rfl⟩
abbrev main_v333 : Ref sig .tc := ⟨.hbm, 449, rfl⟩
abbrev main_c_99 : Ref sig .tc := ⟨.hbm, 450, rfl⟩
abbrev main_v334 : Ref sig .tc := ⟨.hbm, 451, rfl⟩
abbrev main_v335 : Ref sig .tc := ⟨.hbm, 452, rfl⟩
abbrev main_c_100 : Ref sig .tc := ⟨.hbm, 453, rfl⟩
abbrev main_v336 : Ref sig .tc := ⟨.hbm, 454, rfl⟩
abbrev main_v337 : Ref sig .tc := ⟨.hbm, 455, rfl⟩
abbrev main_c_101 : Ref sig .tc := ⟨.hbm, 456, rfl⟩
abbrev main_v338 : Ref sig .tc := ⟨.hbm, 457, rfl⟩
abbrev main_v339 : Ref sig .tc := ⟨.hbm, 458, rfl⟩
abbrev main_v340 : Ref sig .tc := ⟨.hbm, 459, rfl⟩
abbrev main_c_102 : Ref sig .tc := ⟨.hbm, 460, rfl⟩
abbrev main_v341 : Ref sig .tc := ⟨.hbm, 461, rfl⟩
abbrev main_v342 : Ref sig .tc := ⟨.hbm, 462, rfl⟩
abbrev main_c_103 : Ref sig .tc := ⟨.hbm, 463, rfl⟩
abbrev main_v343 : Ref sig .tc := ⟨.hbm, 464, rfl⟩
abbrev main_v344 : Ref sig .tc := ⟨.hbm, 465, rfl⟩
abbrev main_v345 : Ref sig .tc := ⟨.hbm, 466, rfl⟩
abbrev main_v346 : Ref sig .tc := ⟨.hbm, 467, rfl⟩
abbrev main_v347 : Ref sig .tc := ⟨.hbm, 468, rfl⟩
abbrev main_c_104 : Ref sig .tc := ⟨.hbm, 469, rfl⟩
abbrev main_v348 : Ref sig .tc := ⟨.hbm, 470, rfl⟩
abbrev main_v349 : Ref sig .tc := ⟨.hbm, 471, rfl⟩
abbrev main_c_105 : Ref sig .tc := ⟨.hbm, 472, rfl⟩
abbrev main_v350 : Ref sig .tc := ⟨.hbm, 473, rfl⟩
abbrev main_v351 : Ref sig .tc := ⟨.hbm, 474, rfl⟩
abbrev main_v352 : Ref sig .tc := ⟨.hbm, 475, rfl⟩
abbrev main_v353 : Ref sig .tc := ⟨.hbm, 476, rfl⟩
abbrev main_v354 : Ref sig .tc := ⟨.hbm, 477, rfl⟩
abbrev main_c_106 : Ref sig .tc := ⟨.hbm, 478, rfl⟩
abbrev main_v355 : Ref sig .tc := ⟨.hbm, 479, rfl⟩
abbrev main_v356 : Ref sig .tc := ⟨.hbm, 480, rfl⟩
abbrev main_c_107 : Ref sig .tc := ⟨.hbm, 481, rfl⟩
abbrev main_v357 : Ref sig .tc := ⟨.hbm, 482, rfl⟩
abbrev main_v358 : Ref sig .tc := ⟨.hbm, 483, rfl⟩
abbrev main_v359 : Ref sig .tc := ⟨.hbm, 484, rfl⟩
abbrev main_v360 : Ref sig .tc := ⟨.hbm, 485, rfl⟩
abbrev main_v361 : Ref sig .tc := ⟨.hbm, 486, rfl⟩
abbrev main_c_108 : Ref sig .tc := ⟨.hbm, 487, rfl⟩
abbrev main_v362 : Ref sig .tc := ⟨.hbm, 488, rfl⟩
abbrev main_v363 : Ref sig .tc := ⟨.hbm, 489, rfl⟩
abbrev main_c_109 : Ref sig .tc := ⟨.hbm, 490, rfl⟩
abbrev main_v364 : Ref sig .tc := ⟨.hbm, 491, rfl⟩
abbrev main_v365 : Ref sig .tc := ⟨.hbm, 492, rfl⟩
abbrev main_v366 : Ref sig .tc := ⟨.hbm, 493, rfl⟩
abbrev main_v367 : Ref sig .tc := ⟨.hbm, 494, rfl⟩
abbrev main_c_110 : Ref sig .tc := ⟨.hbm, 495, rfl⟩
abbrev main_v368 : Ref sig .tc := ⟨.hbm, 496, rfl⟩
abbrev main_v369 : Ref sig .tc := ⟨.hbm, 497, rfl⟩
abbrev main_c_111 : Ref sig .tc := ⟨.hbm, 498, rfl⟩
abbrev main_v370 : Ref sig .tc := ⟨.hbm, 499, rfl⟩
abbrev main_v371 : Ref sig .tc := ⟨.hbm, 500, rfl⟩
abbrev main_c_112 : Ref sig .tc := ⟨.hbm, 501, rfl⟩
abbrev main_v372 : Ref sig .tc := ⟨.hbm, 502, rfl⟩
abbrev main_v373 : Ref sig .tc := ⟨.hbm, 503, rfl⟩
abbrev main_v374 : Ref sig .tc := ⟨.hbm, 504, rfl⟩
abbrev main_c_113 : Ref sig .tc := ⟨.hbm, 505, rfl⟩
abbrev main_v375 : Ref sig .tc := ⟨.hbm, 506, rfl⟩
abbrev main_v376 : Ref sig .tc := ⟨.hbm, 507, rfl⟩
abbrev main_c_114 : Ref sig .tc := ⟨.hbm, 508, rfl⟩
abbrev main_v377 : Ref sig .tc := ⟨.hbm, 509, rfl⟩
abbrev main_v378 : Ref sig .tc := ⟨.hbm, 510, rfl⟩
abbrev main_v379 : Ref sig .tc := ⟨.hbm, 511, rfl⟩
abbrev main_v380 : Ref sig .tc := ⟨.hbm, 512, rfl⟩
abbrev main_v381 : Ref sig .tc := ⟨.hbm, 513, rfl⟩
abbrev main_c_115 : Ref sig .tc := ⟨.hbm, 514, rfl⟩
abbrev main_v382 : Ref sig .tc := ⟨.hbm, 515, rfl⟩
abbrev main_v383 : Ref sig .tc := ⟨.hbm, 516, rfl⟩
abbrev main_c_116 : Ref sig .tc := ⟨.hbm, 517, rfl⟩
abbrev main_v384 : Ref sig .tc := ⟨.hbm, 518, rfl⟩
abbrev main_v385 : Ref sig .tc := ⟨.hbm, 519, rfl⟩
abbrev main_v386 : Ref sig .tc := ⟨.hbm, 520, rfl⟩
abbrev main_v387 : Ref sig .tc := ⟨.hbm, 521, rfl⟩
abbrev main_v388 : Ref sig .tc := ⟨.hbm, 522, rfl⟩
abbrev main_c_117 : Ref sig .tc := ⟨.hbm, 523, rfl⟩
abbrev main_v389 : Ref sig .tc := ⟨.hbm, 524, rfl⟩
abbrev main_v390 : Ref sig .tc := ⟨.hbm, 525, rfl⟩
abbrev main_c_118 : Ref sig .tc := ⟨.hbm, 526, rfl⟩
abbrev main_v391 : Ref sig .tc := ⟨.hbm, 527, rfl⟩
abbrev main_v392 : Ref sig .tc := ⟨.hbm, 528, rfl⟩
abbrev main_v393 : Ref sig .tc := ⟨.hbm, 529, rfl⟩
abbrev main_v394 : Ref sig .tc := ⟨.hbm, 530, rfl⟩
abbrev main_v395 : Ref sig .tc := ⟨.hbm, 531, rfl⟩
abbrev main_c_119 : Ref sig .tc := ⟨.hbm, 532, rfl⟩
abbrev main_v396 : Ref sig .tc := ⟨.hbm, 533, rfl⟩
abbrev main_v397 : Ref sig .tc := ⟨.hbm, 534, rfl⟩
abbrev main_c_120 : Ref sig .tc := ⟨.hbm, 535, rfl⟩
abbrev main_v398 : Ref sig .tc := ⟨.hbm, 536, rfl⟩
abbrev main_v399 : Ref sig .tc := ⟨.hbm, 537, rfl⟩
abbrev main_v400 : Ref sig .tc := ⟨.hbm, 538, rfl⟩
abbrev main_v401 : Ref sig .tc := ⟨.hbm, 539, rfl⟩
abbrev main_c_121 : Ref sig .tc := ⟨.hbm, 540, rfl⟩
abbrev main_v402 : Ref sig .tc := ⟨.hbm, 541, rfl⟩
abbrev main_v403 : Ref sig .tc := ⟨.hbm, 542, rfl⟩
abbrev main_c_122 : Ref sig .tc := ⟨.hbm, 543, rfl⟩
abbrev main_v404 : Ref sig .tc := ⟨.hbm, 544, rfl⟩
abbrev main_v405 : Ref sig .tc := ⟨.hbm, 545, rfl⟩
abbrev main_c_123 : Ref sig .tc := ⟨.hbm, 546, rfl⟩
abbrev main_v406 : Ref sig .tc := ⟨.hbm, 547, rfl⟩
abbrev main_v407 : Ref sig .tc := ⟨.hbm, 548, rfl⟩
abbrev main_v408 : Ref sig .tc := ⟨.hbm, 549, rfl⟩
abbrev main_c_124 : Ref sig .tc := ⟨.hbm, 550, rfl⟩
abbrev main_v409 : Ref sig .tc := ⟨.hbm, 551, rfl⟩
abbrev main_v410 : Ref sig .tc := ⟨.hbm, 552, rfl⟩
abbrev main_c_125 : Ref sig .tc := ⟨.hbm, 553, rfl⟩
abbrev main_v411 : Ref sig .tc := ⟨.hbm, 554, rfl⟩
abbrev main_v412 : Ref sig .tc := ⟨.hbm, 555, rfl⟩
abbrev main_v413 : Ref sig .tc := ⟨.hbm, 556, rfl⟩
abbrev main_v414 : Ref sig .tc := ⟨.hbm, 557, rfl⟩
abbrev main_v415 : Ref sig .tc := ⟨.hbm, 558, rfl⟩
abbrev main_c_126 : Ref sig .tc := ⟨.hbm, 559, rfl⟩
abbrev main_v416 : Ref sig .tc := ⟨.hbm, 560, rfl⟩
abbrev main_v417 : Ref sig .tc := ⟨.hbm, 561, rfl⟩
abbrev main_c_127 : Ref sig .tc := ⟨.hbm, 562, rfl⟩
abbrev main_v418 : Ref sig .tc := ⟨.hbm, 563, rfl⟩
abbrev main_v419 : Ref sig .tc := ⟨.hbm, 564, rfl⟩
abbrev main_v420 : Ref sig .tc := ⟨.hbm, 565, rfl⟩
abbrev main_v421 : Ref sig .tc := ⟨.hbm, 566, rfl⟩
abbrev main_v422 : Ref sig .tc := ⟨.hbm, 567, rfl⟩
abbrev main_c_128 : Ref sig .tc := ⟨.hbm, 568, rfl⟩
abbrev main_v423 : Ref sig .tc := ⟨.hbm, 569, rfl⟩
abbrev main_v424 : Ref sig .tc := ⟨.hbm, 570, rfl⟩
abbrev main_c_129 : Ref sig .tc := ⟨.hbm, 571, rfl⟩
abbrev main_v425 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_v429 : Ref sig .tc := ⟨.hbm, 576, rfl⟩
abbrev main_c_130 : Ref sig .tc := ⟨.hbm, 577, rfl⟩
abbrev main_v430 : Ref sig .tc := ⟨.hbm, 578, rfl⟩
abbrev main_v431 : Ref sig .tc := ⟨.hbm, 579, rfl⟩
abbrev main_c_131 : Ref sig .tc := ⟨.hbm, 580, rfl⟩
abbrev main_v432 : Ref sig .tc := ⟨.hbm, 581, rfl⟩
abbrev main_v433 : Ref sig .tc := ⟨.hbm, 582, rfl⟩
abbrev main_v434 : Ref sig .tc := ⟨.hbm, 583, rfl⟩
abbrev main_v435 : Ref sig .tc := ⟨.hbm, 584, rfl⟩
abbrev main_c_132 : Ref sig .tc := ⟨.hbm, 585, rfl⟩
abbrev main_v436 : Ref sig .tc := ⟨.hbm, 586, rfl⟩
abbrev main_v437 : Ref sig .tc := ⟨.hbm, 587, rfl⟩
abbrev main_c_133 : Ref sig .tc := ⟨.hbm, 588, rfl⟩
abbrev main_v438 : Ref sig .tc := ⟨.hbm, 589, rfl⟩
abbrev main_v439 : Ref sig .tc := ⟨.hbm, 590, rfl⟩
abbrev main_c_134 : Ref sig .tc := ⟨.hbm, 591, rfl⟩
abbrev main_v440 : Ref sig .tc := ⟨.hbm, 592, rfl⟩
abbrev main_v441 : Ref sig .tc := ⟨.hbm, 593, rfl⟩
abbrev main_v442 : Ref sig .tc := ⟨.hbm, 594, rfl⟩
abbrev main_c_135 : Ref sig .tc := ⟨.hbm, 595, rfl⟩
abbrev main_v443 : Ref sig .tc := ⟨.hbm, 596, rfl⟩
abbrev main_v444 : Ref sig .tc := ⟨.hbm, 597, rfl⟩
abbrev main_c_136 : Ref sig .tc := ⟨.hbm, 598, rfl⟩
abbrev main_v445 : Ref sig .tc := ⟨.hbm, 599, rfl⟩
abbrev main_v446 : Ref sig .tc := ⟨.hbm, 600, rfl⟩
abbrev main_v447 : Ref sig .tc := ⟨.hbm, 601, rfl⟩
abbrev main_v448 : Ref sig .tc := ⟨.hbm, 602, rfl⟩
abbrev main_v449 : Ref sig .tc := ⟨.hbm, 603, rfl⟩
abbrev main_c_137 : Ref sig .tc := ⟨.hbm, 604, rfl⟩
abbrev main_v450 : Ref sig .tc := ⟨.hbm, 605, rfl⟩
abbrev main_v451 : Ref sig .tc := ⟨.hbm, 606, rfl⟩
abbrev main_c_138 : Ref sig .tc := ⟨.hbm, 607, rfl⟩
abbrev main_v452 : Ref sig .tc := ⟨.hbm, 608, rfl⟩
abbrev main_v453 : Ref sig .tc := ⟨.hbm, 609, rfl⟩
abbrev main_v454 : Ref sig .tc := ⟨.hbm, 610, rfl⟩
abbrev main_v455 : Ref sig .tc := ⟨.hbm, 611, rfl⟩
abbrev main_v456 : Ref sig .tc := ⟨.hbm, 612, rfl⟩
abbrev main_c_139 : Ref sig .tc := ⟨.hbm, 613, rfl⟩
abbrev main_v457 : Ref sig .tc := ⟨.hbm, 614, rfl⟩
abbrev main_v458 : Ref sig .tc := ⟨.hbm, 615, rfl⟩
abbrev main_c_140 : Ref sig .tc := ⟨.hbm, 616, rfl⟩
abbrev main_v459 : Ref sig .tc := ⟨.hbm, 617, rfl⟩
abbrev main_v460 : Ref sig .tc := ⟨.hbm, 618, rfl⟩
abbrev main_v461 : Ref sig .tc := ⟨.hbm, 619, rfl⟩
abbrev main_v462 : Ref sig .tc := ⟨.hbm, 620, rfl⟩
abbrev main_v463 : Ref sig .tc := ⟨.hbm, 621, rfl⟩
abbrev main_c_141 : Ref sig .tc := ⟨.hbm, 622, rfl⟩
abbrev main_v464 : Ref sig .tc := ⟨.hbm, 623, rfl⟩
abbrev main_v465 : Ref sig .tc := ⟨.hbm, 624, rfl⟩
abbrev main_c_142 : Ref sig .tc := ⟨.hbm, 625, rfl⟩
abbrev main_v466 : Ref sig .tc := ⟨.hbm, 626, rfl⟩
abbrev main_v467 : Ref sig .tc := ⟨.hbm, 627, rfl⟩
abbrev main_v468 : Ref sig .tc := ⟨.hbm, 628, rfl⟩
abbrev main_v469 : Ref sig .tc := ⟨.hbm, 629, rfl⟩
abbrev main_c_143 : Ref sig .tc := ⟨.hbm, 630, rfl⟩
abbrev main_v470 : Ref sig .tc := ⟨.hbm, 631, rfl⟩
abbrev main_v471 : Ref sig .tc := ⟨.hbm, 632, rfl⟩
abbrev main_c_144 : Ref sig .tc := ⟨.hbm, 633, rfl⟩
abbrev main_v472 : Ref sig .tc := ⟨.hbm, 634, rfl⟩
abbrev main_v473 : Ref sig .tc := ⟨.hbm, 635, rfl⟩
abbrev main_c_145 : Ref sig .tc := ⟨.hbm, 636, rfl⟩
abbrev main_v474 : Ref sig .tc := ⟨.hbm, 637, rfl⟩
abbrev main_v475 : Ref sig .tc := ⟨.hbm, 638, rfl⟩
abbrev main_v476 : Ref sig .tc := ⟨.hbm, 639, rfl⟩
abbrev main_c_146 : Ref sig .tc := ⟨.hbm, 640, rfl⟩
abbrev main_v477 : Ref sig .tc := ⟨.hbm, 641, rfl⟩
abbrev main_v478 : Ref sig .tc := ⟨.hbm, 642, rfl⟩
abbrev main_c_147 : Ref sig .tc := ⟨.hbm, 643, rfl⟩
abbrev main_v479 : Ref sig .tc := ⟨.hbm, 644, rfl⟩
abbrev main_v480 : Ref sig .tc := ⟨.hbm, 645, rfl⟩
abbrev main_v481 : Ref sig .tc := ⟨.hbm, 646, rfl⟩
abbrev main_cst_148 : Ref sig .tc := ⟨.hbm, 647, rfl⟩
abbrev main_v482 : Ref sig .tc := ⟨.hbm, 648, rfl⟩
abbrev main_v483 : Ref sig .tc := ⟨.hbm, 649, rfl⟩
abbrev main_cst_149 : Ref sig .tc := ⟨.hbm, 650, rfl⟩
abbrev main_v484 : Ref sig .tc := ⟨.hbm, 651, rfl⟩
abbrev main_v485 : Ref sig .tc := ⟨.hbm, 652, rfl⟩
abbrev main_cst_150 : Ref sig .tc := ⟨.hbm, 653, rfl⟩
abbrev main_v486 : Ref sig .tc := ⟨.hbm, 654, rfl⟩
abbrev main_v487 : Ref sig .tc := ⟨.hbm, 655, rfl⟩
abbrev main_cst_151 : Ref sig .tc := ⟨.hbm, 656, rfl⟩
abbrev main_v488 : Ref sig .tc := ⟨.hbm, 657, rfl⟩
abbrev main_v489 : Ref sig .tc := ⟨.hbm, 658, rfl⟩
abbrev main_v490 : Ref sig .tc := ⟨.hbm, 659, rfl⟩
abbrev main_v491 : Ref sig .tc := ⟨.hbm, 660, rfl⟩
abbrev main_v492 : Ref sig .tc := ⟨.hbm, 661, rfl⟩
abbrev main_v493 : Ref sig .tc := ⟨.hbm, 662, rfl⟩
abbrev main_v494 : Ref sig .tc := ⟨.hbm, 663, rfl⟩
abbrev main_cst_152 : Ref sig .tc := ⟨.hbm, 664, rfl⟩
abbrev main_v495 : Ref sig .tc := ⟨.hbm, 665, rfl⟩
abbrev main_v496 : Ref sig .tc := ⟨.hbm, 666, rfl⟩
abbrev main_cst_153 : Ref sig .tc := ⟨.hbm, 667, rfl⟩
abbrev main_v497 : Ref sig .tc := ⟨.hbm, 668, rfl⟩
abbrev main_cst_154 : Ref sig .tc := ⟨.hbm, 669, rfl⟩
abbrev main_v498 : Ref sig .tc := ⟨.hbm, 670, rfl⟩
abbrev main_v499 : Ref sig .tc := ⟨.hbm, 671, rfl⟩
abbrev main_v500 : Ref sig .tc := ⟨.hbm, 672, rfl⟩
abbrev main_v501 : Ref sig .tc := ⟨.hbm, 673, rfl⟩
abbrev main_v502 : Ref sig .tc := ⟨.hbm, 674, rfl⟩
abbrev main_v503 : Ref sig .tc := ⟨.hbm, 675, rfl⟩
abbrev main_cst_155 : Ref sig .tc := ⟨.hbm, 676, rfl⟩
abbrev main_v504 : Ref sig .tc := ⟨.hbm, 677, rfl⟩
abbrev main_v505 : Ref sig .tc := ⟨.hbm, 678, rfl⟩
abbrev main_v506 : Ref sig .tc := ⟨.hbm, 679, rfl⟩
abbrev main_v507 : Ref sig .tc := ⟨.hbm, 680, rfl⟩
abbrev main_cst_156 : Ref sig .tc := ⟨.hbm, 681, rfl⟩
abbrev main_v508 : Ref sig .tc := ⟨.hbm, 682, rfl⟩
abbrev main_v509 : Ref sig .tc := ⟨.hbm, 683, rfl⟩
abbrev main_v510 : Ref sig .tc := ⟨.hbm, 684, rfl⟩
abbrev main_v511 : Ref sig .tc := ⟨.hbm, 685, rfl⟩
abbrev main_v512 : Ref sig .tc := ⟨.hbm, 686, rfl⟩
abbrev main_c_157 : Ref sig .tc := ⟨.hbm, 687, rfl⟩
abbrev main_call5_v0 : Ref sig .tc := ⟨.hbm, 688, rfl⟩
abbrev main_call5_v1 : Ref sig .tc := ⟨.hbm, 689, rfl⟩
abbrev main_v513 : Ref sig .tc := ⟨.hbm, 690, rfl⟩
abbrev main_c_158 : Ref sig .tc := ⟨.hbm, 691, rfl⟩
abbrev main_v514 : Ref sig .tc := ⟨.hbm, 692, rfl⟩
abbrev main_call6_v0 : Ref sig .tc := ⟨.hbm, 693, rfl⟩
abbrev main_call6_v1 : Ref sig .tc := ⟨.hbm, 694, rfl⟩
abbrev main_call6_v2 : Ref sig .tc := ⟨.hbm, 695, rfl⟩
abbrev main_call6_v3 : Ref sig .tc := ⟨.hbm, 696, rfl⟩
abbrev main_call6_v4 : Ref sig .tc := ⟨.hbm, 697, rfl⟩
abbrev main_v515 : Ref sig .tc := ⟨.hbm, 698, rfl⟩
abbrev main_v516 : Ref sig .tc := ⟨.hbm, 699, rfl⟩
abbrev main_v517 : Ref sig .tc := ⟨.hbm, 700, rfl⟩
abbrev main_v518 : Ref sig .tc := ⟨.hbm, 701, rfl⟩
abbrev main_v519 : Ref sig .tc := ⟨.hbm, 702, rfl⟩
abbrev main_v520 : Ref sig .tc := ⟨.hbm, 703, rfl⟩
abbrev main_v521 : Ref sig .tc := ⟨.hbm, 704, rfl⟩
abbrev main_v522 : Ref sig .tc := ⟨.hbm, 705, rfl⟩
abbrev main_cst_159 : Ref sig .tc := ⟨.hbm, 706, rfl⟩
abbrev main_v523 : Ref sig .tc := ⟨.hbm, 707, rfl⟩
abbrev main_cst_160 : Ref sig .tc := ⟨.hbm, 708, rfl⟩
abbrev main_v524 : Ref sig .tc := ⟨.hbm, 709, rfl⟩
abbrev main_cst_161 : Ref sig .tc := ⟨.hbm, 710, rfl⟩
abbrev main_v525 : Ref sig .tc := ⟨.hbm, 711, rfl⟩
abbrev main_v526 : Ref sig .tc := ⟨.hbm, 712, rfl⟩
abbrev main_v527 : Ref sig .tc := ⟨.hbm, 713, rfl⟩
abbrev main_cst_162 : Ref sig .tc := ⟨.hbm, 714, rfl⟩
abbrev main_v528 : Ref sig .tc := ⟨.hbm, 715, rfl⟩
abbrev main_v529 : Ref sig .tc := ⟨.hbm, 716, rfl⟩
abbrev main_v530 : Ref sig .tc := ⟨.hbm, 717, rfl⟩
abbrev main_v531 : Ref sig .tc := ⟨.hbm, 718, rfl⟩
abbrev main_cst_163 : Ref sig .tc := ⟨.hbm, 719, rfl⟩
abbrev main_v532 : Ref sig .tc := ⟨.hbm, 720, rfl⟩
abbrev main_v533 : Ref sig .tc := ⟨.hbm, 721, rfl⟩
abbrev main_v534 : Ref sig .tc := ⟨.hbm, 722, rfl⟩
abbrev main_v535 : Ref sig .tc := ⟨.hbm, 723, rfl⟩
abbrev main_v536 : Ref sig .tc := ⟨.hbm, 724, rfl⟩
abbrev main_v537 : Ref sig .tc := ⟨.hbm, 725, rfl⟩
abbrev main_cst_164 : Ref sig .tc := ⟨.hbm, 726, rfl⟩
abbrev main_v538 : Ref sig .tc := ⟨.hbm, 727, rfl⟩
abbrev main_cst_165 : Ref sig .tc := ⟨.hbm, 728, rfl⟩
abbrev main_v539 : Ref sig .tc := ⟨.hbm, 729, rfl⟩
abbrev main_v540 : Ref sig .tc := ⟨.hbm, 730, rfl⟩
abbrev main_v541 : Ref sig .tc := ⟨.hbm, 731, rfl⟩
abbrev main_cst_166 : Ref sig .tc := ⟨.hbm, 732, rfl⟩
abbrev main_v542 : Ref sig .tc := ⟨.hbm, 733, rfl⟩
abbrev main_cst_167 : Ref sig .tc := ⟨.hbm, 734, rfl⟩
abbrev main_v543 : Ref sig .tc := ⟨.hbm, 735, rfl⟩
abbrev main_cst_168 : Ref sig .tc := ⟨.hbm, 736, rfl⟩
abbrev main_v544 : Ref sig .tc := ⟨.hbm, 737, rfl⟩
abbrev main_v545 : Ref sig .tc := ⟨.hbm, 738, rfl⟩
abbrev main_v546 : Ref sig .tc := ⟨.hbm, 739, rfl⟩
abbrev main_v547 : Ref sig .tc := ⟨.hbm, 740, rfl⟩
abbrev main_v548 : Ref sig .tc := ⟨.hbm, 741, rfl⟩

abbrev nD : Nat := 1
abbrev τ : Topo := Topo.v7x

variable {F : FTy → Type} [FloatOps F]
-- ==== Proof.Step.lean ====
/- One grid point of the kernel as pure functions of the blocks it is given: what it leaves in each of its outputs. -/
module

public import proofs.«01_k».proof.Proof.Gen.KernelIdeal.Skeleton
public import Idealize.ShloMosaic.Lib.Pointwise.Index

@[expose] public section

noncomputable section

namespace Cert.KernelIdeal.Step

open Idealize.ShloMosaic Idealize.SL.Sem Cert.KernelIdeal Cert.KernelIdeal.Gen

variable {F : FTy → Type} [FloatOps F]

/-- What a grid point computes with: the rows, the two tables of codes, the positions of the entries of the two noise
    blocks, the distances of the rows' first halves from the codes of the first table, the squared lengths of the rows'
    second halves and of the codes of the second table, and the validity of the rows. -/
structure Ins (F : FTy → Type) where
  x : Vec F S1024x512 .f32
  ws : Vec F S1024x256 .f32
  wc : Vec F S64x256 .f32
  ps : Vec F S1024x1024 .i32
  pc : Vec F S1024x64 .i32
  d : FVec F S1024x1024 .f32
  x2c : Vec F S1024 .f32
  w2c : Vec F S64 .f32
  m : Vec F S1024 .f32

/-- Some row is background. -/
def Some1 (hb : Vec F S1 .f32) : Prop :=
  Scalar.cmpi .ne (Scalar.extui (Scalar.cmpf .ogt (hb (ix1 0)) (Scalar.ofBits .f32 0x3F000000#32)) : BitVec 32) 0#32 = 1#1

instance (hb : Vec F S1 .f32) : Decidable (Some1 hb) := inferInstanceAs (Decidable (_ = _))

/-- The distances of the rows' first halves from the codes of the first table, `+∞` where the background forbids. -/
def distS (x : Vec F S1024x512 .f32) (ws : Vec F S1024x256 .f32) (x2s w2s bg : Vec F S1024 .f32) (hb : Vec F S1 .f32) :
    FVec F S1024x1024 .f32 :=
  if Some1 hb then k0_pay13 x ws x2s w2s bg else k0_pay12 x ws x2s w2s

/-- The first noise block's cipher after the first group of four rounds and the next two rounds. -/
def rndS (i : grid0.Coords) (I : Ins F) : IVec S1024x1024 32 × IVec S1024x1024 32 :=
  (k0_pay26 (k0_pay14 i I.ps) k0_pay15, k0_pay27 (k0_pay14 i I.ps) k0_pay15)

/-- The first noise block's cipher further on. -/
def rndS' (i : grid0.Coords) (I : Ins F) : IVec S1024x1024 32 × IVec S1024x1024 32 :=
  (k0_pay38 (rndS i I).1 (rndS i I).2, k0_pay39 (rndS i I).1 (rndS i I).2)

/-- The codes of the first table whose score is the greatest of their row. -/
def hitS (i : grid0.Coords) (I : Ins F) : IVec S1024x1024 1 :=
  k0_pay53 I.d (k0_pay50 (rndS' i I).1 (rndS' i I).2) (k0_pay51 (rndS' i I).1 (rndS' i I).2) k0_pay52

/-- The numbers of the codes of the first table. -/
abbrev colS : IVec S1024x1024 32 := iota .tc S1024x1024 32 [1] iota_S1024x1024_d1_w32

/-- The code of the first table each row gets. -/
def idxS (i : grid0.Coords) (I : Ins F) : IVec S1024 32 := k0_pay55 colS (hitS i I) k0_pay54

/-- The rows' codes of the first table, as vectors. -/
def qS (i : grid0.Coords) (I : Ins F) : FVec F S1024x256 .f32 := k0_pay58 I.ws colS (hitS i I) k0_pay54

/-- The valid rows of each code of the first table, added to what was counted before. -/
def cntS (i : grid0.Coords) (I : Ins F) (cnt : Vec F S1024 .f32) : FVec F S1024 .f32 :=
  k0_pay57 (k0_pay11 I.m) colS (hitS i I) k0_pay54 cnt

/-- The distances of the rows' second halves from the codes of the second table. -/
def distC (I : Ins F) : FVec F S1024x64 .f32 := k0_pay59 (k0_pay10 I.x) I.wc I.x2c I.w2c

/-- The grid point's number as a word. -/
abbrev num (i : grid0.Coords) : BitVec 32 := BitVec.ofNat 32 (i 0).val

/-- The second noise block's cipher, first part: four arrays. -/
def rndC (i : grid0.Coords) (I : Ins F) : IVec S1024x64 32 × IVec S1024x64 32 × IVec S1024x64 32 :=
  let a := k0_pay60 (num i) I.pc
  let b := k0_pay61 (num i) I.pc
  let d := k0_pay62 (num i) I.pc
  (k0_pay74 a b d k0_pay63, k0_pay75 a b d k0_pay63, k0_pay76 a b d k0_pay63)

/-- The second noise block's cipher further on. -/
def rndC' (i : grid0.Coords) (I : Ins F) : IVec S1024x64 32 × IVec S1024x64 32 :=
  (k0_pay88 (rndC i I).1 (rndC i I).2.1 (rndC i I).2.2 k0_pay77, k0_pay89 (rndC i I).1 (rndC i I).2.1 (rndC i I).2.2 k0_pay77)

/-- The second noise block's cipher further on. -/
def rndC'' (i : grid0.Coords) (I : Ins F) : IVec S1024x64 32 × IVec S1024x64 32 :=
  (k0_pay100 (rndC' i I).1 (rndC' i I).2, k0_pay101 (rndC' i I).1 (rndC' i I).2)

/-- The numbers of the codes of the second table. -/
abbrev colC : IVec S1024x64 32 := iota .tc S1024x64 32 [1] iota_S1024x64_d1_w32

/-- The numbers of the columns of the second table's counts. -/
abbrev colP : IVec S1024x128 32 := iota .tc S1024x128 32 [1] iota_S1024x128_d1_w32

/-- The code of the second table each row gets. -/
def idxC (i : grid0.Coords) (I : Ins F) : IVec S1024 32 := k0_pay102 (distC I) colC (rndC'' i I).1 (rndC'' i I).2

/-- The same, spread over the columns. -/
def idxP (i : grid0.Coords) (I : Ins F) : IVec S1024x128 32 := k0_pay103 (distC I) colC (rndC'' i I).1 (rndC'' i I).2

/-- The rows' codes of the second table, as vectors. -/
def qC (i : grid0.Coords) (I : Ins F) : FVec F S1024x256 .f32 := k0_pay106 I.wc colP (idxP i I)

/-- The valid rows of each code of the second table, added to what was counted before. -/
def cntC (i : grid0.Coords) (I : Ins F) (cnt : Vec F S128 .f32) : FVec F S128 .f32 :=
  k0_pay105 (k0_pay11 I.m) colP (idxP i I) cnt

/-- The rows' two codes side by side. -/
def q (i : grid0.Coords) (I : Ins F) : Vec F S1024x512 .f32 := fun y =>
  if h : (y 1).val < 256 then qS i I (ix2 (y 0) ⟨(y 1).val, h⟩)
  else qC i I (ix2 (y 0) ⟨(y 1).val - 256, by have := (y 1).isLt; change (y 1).val < 512 at this; show _ < 256; omega⟩)

/-- The squared differences of the rows from their codes, added to the sum before. -/
def loss (i : grid0.Coords) (I : Ins F) (v : F .f32) : F .f32 :=
  k0_pay107 (k0_pay9 I.x) (k0_pay10 I.x) I.wc (qS i I) colP (idxP i I) v

/-- The valid rows' number, added to the number before. -/
def valid (I : Ins F) (v : F .f32) : F .f32 := k0_pay1 v (k0_pay108 (k0_pay11 I.m))

/-- A cell of the four statistics. -/
abbrev at4 (st : Vec F S4 .f32) (k : Fin 4) : F .f32 := st (ix1 k)

/-- The four statistics with one replaced. -/
def put4 (st : Vec F S4 .f32) (k : Nat) (v : F .f32) : Vec F S4 .f32 := fun y => if (y 0).val = k then v else st y

/-- The statistics after a grid point: the loss's sum in cell 0 and the valid rows' number in cell 3. -/
def stat (i : grid0.Coords) (I : Ins F) (st : Vec F S4 .f32) : Vec F S4 .f32 :=
  put4 (put4 st 0 (loss i I (at4 st 0))) 3 (valid I (at4 st 3))

/-- The statistics the last grid point leaves: the two perplexities in cells 1 and 2 and the loss in cell 0. -/
def last (st : Vec F S4 .f32) (cs : Vec F S1024 .f32) (cc : Vec F S128 .f32) : Vec F S4 .f32 :=
  put4 (put4 (put4 st 1 (k0_pay3 (at4 st 3) cs)) 2 (k0_pay4 (at4 st 3) cc)) 0 (k0_pay5 (at4 st 0))

/-- Four zeros. -/
def zero4 : Vec F S4 .f32 := fun _ => Scalar.ofBits .f32 0x00000000#32

/-- The grid point is the first one. -/
abbrev First (i : grid0.Coords) : Prop :=
  (Scalar.cmpi .ne (Scalar.extui (Scalar.cmpi .eq (BitVec.ofNat 32 (i 0).val) 0#32)) 0#32) = 1#1

/-- The grid point is the last one. -/
abbrev Final (i : grid0.Coords) : Prop :=
  (Scalar.cmpi .ne (Scalar.extui (Scalar.cmpi .eq (BitVec.ofNat 32 (i 0).val) 15#32)) 0#32) = 1#1

/-- What is carried from one grid point to the next: the two tables' counts and the statistics. -/
structure Acc (F : FTy → Type) where
  cs : Vec F S1024 .f32
  cc : Vec F S128 .f32
  st : Vec F S4 .f32

/-- What a grid point starts from: zeros at the first one. -/
def start (i : grid0.Coords) (A : Acc F) : Acc F := if First i then ⟨k0_pay6, k0_pay7, zero4⟩ else A

/-- What a grid point leaves of what it starts from, but for the last grid point's closing. -/
def more (i : grid0.Coords) (I : Ins F) (A : Acc F) : Acc F := ⟨cntS i I A.cs, cntC i I A.cc, stat i I A.st⟩

/-- The last grid point's closing. -/
def close (A : Acc F) : Acc F := ⟨A.cs, A.cc, last A.st A.cs A.cc⟩

/-- What a grid point leaves of what it was handed. -/
def next (i : grid0.Coords) (I : Ins F) (A : Acc F) : Acc F :=
  if Final i then close (more i I (start i A)) else more i I (start i A)

end Cert.KernelIdeal.Step

end
-- ==== Proof.Run.lean ====
/- One grid point of the kernel, run: what each output is left holding. -/
module

public import proofs.«01_k».proof.Proof.Step
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.CellWrites

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cells

variable {κ : Kind} {sp : Space} {e : EltTy} {Val : EltTy → Type}

/-- A one-cell load reads the cell. -/
theorem readAt_cell {d : Fin 1 → ℕ} (v : View sig κ sp ⟨1, d⟩ e) (f : v.ty.Contents Val) {off : Fin 1 → ℕ}
    (inb : ∀ a, off a + (![1] : Fin 1 → ℕ) a ≤ (⟨1, d⟩ : Shape).size a) (h) (y : (⟨1, d⟩ : Shape).Idx) (hy : (y 0).val = off 0) :
    v.readAt Val (Rect.unit (s := ⟨1, d⟩) off ![1] inb).toLoadRect f (Shape.Idx.first h) = v.read Val f y := by
  refine congrArg (v.read Val f) (funext fun a => Fin.ext ?_)
  have ha : a = 0 := Subsingleton.elim _ _
  subst ha
  have h1 : (Shape.Idx.first h (0 : Fin 1)).val < 1 := (Shape.Idx.first h (0 : Fin 1)).isLt
  show off 0 + 1 * (Shape.Idx.first h (0 : Fin 1)).val = (y 0).val
  omega

/-- A cell stored after others: the statistics with that cell replaced. -/
theorem put4_of (v : View sig κ sp S4 .f32) (f : v.ty.Contents (Elt F)) {off : Fin 1 → ℕ}
    (inb : ∀ a, off a + (![1] : Fin 1 → ℕ) a ≤ S4.size a) {p p' : F .f32} {L : List (View.Piece (Elt F) S4 .f32)}
    {st : Vec F S4 .f32} {k : ℕ} (hk : off 0 = k) (hL : v.read (Elt F) (v.writes (Elt F) f L) = st) (hp : p = p') :
    v.read (Elt F) (v.writes (Elt F) f ((⟨Rect.unit off ![1] inb, fun _ => p⟩ : View.Piece (Elt F) S4 .f32) :: L))
      = Step.put4 st k p' := by
  subst hL hp hk
  funext y
  exact View.read_writes_cons_cell v f inb p L y

/-- Zero stored in all four cells. -/
theorem zero4_eq (st : Vec F S4 .f32) (z : F .f32) (hz : z = Scalar.ofBits .f32 0x00000000#32) :
    Step.put4 (Step.put4 (Step.put4 (Step.put4 st 0 z) 1 z) 2 z) 3 z = Step.zero4 := by
  subst hz
  funext y
  have hy : (y 0).val < 4 := (y 0).isLt
  unfold Step.put4 Step.zero4
  split_ifs <;> first | rfl | omega

end Cells

/-- Two halves stored side by side. -/
theorem halves (v : View sig .tc .vmem S1024x512 .f32) (f : v.ty.Contents (Elt F)) {a b : Vec F S1024x256 .f32} :
    v.read (Elt F) (v.writes (Elt F) f
      [⟨Rect.unit ![0, 256] S1024x256.size inb_S1024x512_S1024x256_0_256, b⟩, ⟨Rect.unit ![0, 0] S1024x256.size inb_S1024x512_S1024x256_0_0, a⟩])
      = fun y => if h : (y 1).val < 256 then a (ix2 (y 0) ⟨(y 1).val, h⟩)
          else b (ix2 (y 0) ⟨(y 1).val - 256, by have := (y 1).isLt; change (y 1).val < 512 at this; show _ < 256; omega⟩) := by
  funext y
  have h1 : (y 1).val < 512 := (y 1).isLt
  by_cases h : (y 1).val < 256
  · rw [dif_pos h]
    refine (View.read_writes_cons_unit_of_not_mem v f inb_S1024x512_S1024x256_0_256 b _ y rfl 1 (.inl h)).trans ?_
    exact View.read_writes_cons_unit_of_mem v f _ a _ y (ix2 (y 0) ⟨(y 1).val, h⟩) rfl
      (Fin.forall_fin_two.mpr ⟨(Nat.zero_add _).symm, (Nat.zero_add _).symm⟩)
  · rw [dif_neg h]
    exact View.read_writes_cons_unit_of_mem v f _ b _ y (ix2 (y 0) ⟨(y 1).val - 256, by show _ < 256; omega⟩) rfl
      (Fin.forall_fin_two.mpr ⟨(Nat.zero_add _).symm, by show (y 1).val = 256 + ((y 1).val - 256); omega⟩)

set_option maxHeartbeats 8000000 in
/-- The buffers' contents after the body at a grid point are the functions of `Step` of those before. -/
theorem run (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S64x256 .f32) (harg3 : arg3.IsWhole) (arg4 : Memref sig .tc .vmem S1024x1024 .i32) (harg4 : arg4.IsWhole) (arg5 : Memref sig .tc .vmem S1024x64 .i32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S64 .f32) (harg9 : arg9.IsWhole) (arg10 : Memref sig .tc .vmem S1024 .f32) (harg10 : arg10.IsWhole) (arg11 : Memref sig .tc .vmem S1024 .f32) (harg11 : arg11.IsWhole) (arg12 : Memref sig .tc .smem S1 .f32) (harg12 : arg12.IsWhole) (arg13 : Memref sig .tc .vmem S1024 .i32) (harg13 : arg13.IsWhole) (arg14 : Memref sig .tc .vmem S1024 .i32) (harg14 : arg14.IsWhole) (arg15 : Memref sig .tc .vmem S1024x512 .f32) (harg15 : arg15.IsWhole) (arg16 : Memref sig .tc .vmem S1024 .f32) (harg16 : arg16.IsWhole) (arg17 : Memref sig .tc .vmem S128 .f32) (harg17 : arg17.IsWhole) (arg18 : Memref sig .tc .smem S4 .f32) (harg18 : arg18.IsWhole) (hx : (Step.First i ∧ ¬Step.Final i) ∨ (¬Step.First i ∧ ¬Step.Final i) ∨ (¬Step.First i ∧ Step.Final i))
    (x0 : Vec F S1024x512 .f32) (x1 : Vec F S1024x256 .f32) (x2 : Vec F S64x256 .f32) (x3 : Vec F S1024x1024 .i32) (x4 : Vec F S1024x64 .i32) (x5 : Vec F S1024 .f32) (x6 : Vec F S1024 .f32) (x7 : Vec F S1024 .f32) (x8 : Vec F S64 .f32) (x9 : Vec F S1024 .f32) (x10 : Vec F S1024 .f32) (x11 : Vec F S1 .f32) (A : Step.Acc F)
    (I : Step.Ins F) (hJ : (⟨x0, x1, x2, x3, x4, Step.distS x0 x1 x5 x7 x9 x11, x6, x8, x10⟩ : Step.Ins F) = I) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare A.cs ∗ owns (c : Thread nD τ) arg17 fullShare A.cc ∗ owns (c : Thread nD τ) arg18 fullShare A.st ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (Step.idxS i I) ∗ owns (c : Thread nD τ) arg14 fullShare (Step.idxC i I) ∗ owns (c : Thread nD τ) arg15 fullShare (Step.q i I) ∗ owns (c : Thread nD τ) arg16 fullShare (Step.next i I A).cs ∗ owns (c : Thread nD τ) arg17 fullShare (Step.next i I A).cc ∗ owns (c : Thread nD τ) arg18 fullShare (Step.next i I A).st) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__vq_body_eq_skeleton]; unfold cc0__vq_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg16.eq_unread hf15; obtain rfl := harg17.eq_unread hf16; obtain rfl := harg18.eq_unread hf17
  let y0 := (View.readAt (Elt F) arg1.view (Rect.unit ![0, 0] S1024x512.size inb_S1024x512_S1024x512_0_0).toLoadRect (harg1.unread x0))
  have e0 : y0 = x0 := (View.readAt_full _ _ _).trans (harg1.read_unread x0)
  let y1 := (View.readAt (Elt F) arg2.view (Rect.unit ![0, 0] S1024x256.size inb_S1024x256_S1024x256_0_0).toLoadRect (harg2.unread x1))
  have e1 : y1 = x1 := (View.readAt_full _ _ _).trans (harg2.read_unread x1)
  let y2 := (View.readAt (Elt F) arg3.view (Rect.unit ![0, 0] S64x256.size inb_S64x256_S64x256_0_0).toLoadRect (harg3.unread x2))
  have e2 : y2 = x2 := (View.readAt_full _ _ _).trans (harg3.read_unread x2)
  let y3 := (View.readAt (Elt F) arg4.view (Rect.unit ![0, 0] S1024x1024.size inb_S1024x1024_S1024x1024_0_0).toLoadRect (harg4.unread x3))
  have e3 : y3 = x3 := (View.readAt_full _ _ _).trans (harg4.read_unread x3)
  let y4 := (View.readAt (Elt F) arg5.view (Rect.unit ![0, 0] S1024x64.size inb_S1024x64_S1024x64_0_0).toLoadRect (harg5.unread x4))
  have e4 : y4 = x4 := (View.readAt_full _ _ _).trans (harg5.read_unread x4)
  let y5 := (View.readAt (Elt F) arg6.view (Rect.unit ![0] S1024.size inb_S1024_S1024_0).toLoadRect (harg6.unread x5))
  have e5 : y5 = x5 := (View.readAt_full _ _ _).trans (harg6.read_unread x5)
  let y6 := (View.readAt (Elt F) arg7.view (Rect.unit ![0] S1024.size inb_S1024_S1024_0).toLoadRect (harg7.unread x6))
  have e6 : y6 = x6 := (View.readAt_full _ _ _).trans (harg7.read_unread x6)
  let y7 := (View.readAt (Elt F) arg8.view (Rect.unit ![0] S1024.size inb_S1024_S1024_0).toLoadRect (harg8.unread x7))
  have e7 : y7 = x7 := (View.readAt_full _ _ _).trans (harg8.read_unread x7)
  let y8 := (View.readAt (Elt F) arg9.view (Rect.unit ![0] S64.size inb_S64_S64_0).toLoadRect (harg9.unread x8))
  have e8 : y8 = x8 := (View.readAt_full _ _ _).trans (harg9.read_unread x8)
  let y9 := (View.readAt (Elt F) arg10.view (Rect.unit ![0] S1024.size inb_S1024_S1024_0).toLoadRect (harg10.unread x9))
  have e9 : y9 = x9 := (View.readAt_full _ _ _).trans (harg10.read_unread x9)
  let y10 := (View.readAt (Elt F) arg11.view (Rect.unit ![0] S1024.size inb_S1024_S1024_0).toLoadRect (harg11.unread x10))
  have e10 : y10 = x10 := (View.readAt_full _ _ _).trans (harg11.read_unread x10)
  have hb : Scalar.cmpi .ne (Scalar.extui (Scalar.cmpf .ogt (View.readAt (Elt F) arg12.view (Rect.unit ![0] S1.size inb_S1_S1_0).toLoadRect (harg12.unread x11) (Shape.Idx.first (show 0 < S1.numel by decide))) (Scalar.ofBits .f32 0x3F000000#32)) : BitVec 32) 0#32
      = Scalar.cmpi .ne (Scalar.extui (Scalar.cmpf .ogt (x11 (ix1 0)) (Scalar.ofBits .f32 0x3F000000#32)) : BitVec 32) 0#32 :=
    congrArg (fun z => Scalar.cmpi .ne (Scalar.extui (Scalar.cmpf .ogt z (Scalar.ofBits .f32 0x3F000000#32)) : BitVec 32) 0#32)
      ((readAt_cell (off := ![0]) arg12.view (harg12.unread x11) inb_S1_S1_0 (show 0 < S1.numel by decide) (ix1 0) rfl).trans (congrFun (harg12.read_unread x11) _))
  have s0 : View.readAt (Elt F) arg18.view (Rect.unit (s := S4) ![0] S1.size inb_S4_S1_0).toLoadRect (harg18.unread A.st) (Shape.Idx.first (show 0 < S1.numel by decide)) = Step.at4 A.st 0 :=
    (readAt_cell (off := ![0]) arg18.view (harg18.unread A.st) inb_S4_S1_0 (show 0 < S1.numel by decide) (ix1 0) rfl).trans (congrFun (harg18.read_unread A.st) _)
  have s3 : View.readAt (Elt F) arg18.view (Rect.unit (s := S4) ![3] S1.size inb_S4_S1_3).toLoadRect (harg18.unread A.st) (Shape.Idx.first (show 0 < S1.numel by decide)) = Step.at4 A.st 3 :=
    (readAt_cell (off := ![3]) arg18.view (harg18.unread A.st) inb_S4_S1_3 (show 0 < S1.numel by decide) (ix1 3) rfl).trans (congrFun (harg18.read_unread A.st) _)
  have hI : ∀ d, d = Step.distS x0 x1 x5 x7 x9 x11 → (⟨x0, x1, x2, x3, x4, d, x6, x8, x10⟩ : Step.Ins F) = I := by
    rintro _ rfl
    exact hJ
  have h13 : Step.Some1 x11 → k0_pay13 x0 x1 x5 x7 x9 = Step.distS x0 x1 x5 x7 x9 x11 := fun h => by
    exact (if_pos h).symm
  have h12 : ¬Step.Some1 x11 → k0_pay12 x0 x1 x5 x7 = Step.distS x0 x1 x5 x7 x9 x11 := fun h => by
    exact (if_neg h).symm
  have hnA : (Step.First i) → (¬Step.Final i) → ∀ I', Step.next i I' A = Step.more i I' ⟨k0_pay6, k0_pay7, Step.zero4⟩ := fun hc0 hc1 I' => by
    simp only [Step.next, Step.start, if_pos hc0, if_neg hc1]
  have hnB : (¬Step.First i) → (¬Step.Final i) → ∀ I', Step.next i I' A = Step.more i I' A := fun hc0 hc1 I' => by
    simp only [Step.next, Step.start, if_neg hc0, if_neg hc1]
  have hnC : (¬Step.First i) → (Step.Final i) → ∀ I', Step.next i I' A = Step.close (Step.more i I' A) := fun hc0 hc1 I' => by
    simp only [Step.next, Step.start, if_neg hc0, if_pos hc1]
  rcases Decidable.em (Step.Some1 x11) with hs | hs
  · have hm := hb.trans hs
    let I' : Step.Ins F := ⟨x0, x1, x2, x3, x4, k0_pay13 x0 x1 x5 x7 x9, x6, x8, x10⟩
    have hI' : I' = I := hI _ (h13 hs)
    rw [← hI']
    rcases hx with ⟨hc0, hc1⟩ | ⟨hc0, hc1⟩ | ⟨hc0, hc1⟩
    all_goals sl_exec (disch := first | sl_exact hc0 | sl_exact hc1 | sl_exact hm)
    all_goals sl_step
    all_goals iapply Hk
    all_goals
      isplitl [H0]; · iexists _; isplitr; swap; iexact H0; ipureintro; exact harg1.read_unread x0
      isplitl [H1]; · iexists _; isplitr; swap; iexact H1; ipureintro; exact harg2.read_unread x1
      isplitl [H2]; · iexists _; isplitr; swap; iexact H2; ipureintro; exact harg3.read_unread x2
      isplitl [H3]; · iexists _; isplitr; swap; iexact H3; ipureintro; exact harg4.read_unread x3
      isplitl [H4]; · iexists _; isplitr; swap; iexact H4; ipureintro; exact harg5.read_unread x4
      isplitl [H5]; · iexists _; isplitr; swap; iexact H5; ipureintro; exact harg6.read_unread x5
      isplitl [H6]; · iexists _; isplitr; swap; iexact H6; ipureintro; exact harg7.read_unread x6
      isplitl [H7]; · iexists _; isplitr; swap; iexact H7; ipureintro; exact harg8.read_unread x7
      isplitl [H8]; · iexists _; isplitr; swap; iexact H8; ipureintro; exact harg9.read_unread x8
      isplitl [H9]; · iexists _; isplitr; swap; iexact H9; ipureintro; exact harg10.read_unread x9
      isplitl [H10]; · iexists _; isplitr; swap; iexact H10; ipureintro; exact harg11.read_unread x10
      isplitl [H11]; · iexists _; isplitr; swap; iexact H11; ipureintro; exact harg12.read_unread x11
      isplitl [H12]; · iexists _; isplitr; swap; iexact H12; ipureintro; exact View.read_writes_full _ _ _ _ _
      isplitl [H13]; · iexists _; isplitr; swap; iexact H13; ipureintro; exact View.read_writes_full _ _ _ _ _
      isplitl [H14]; · iexists _; isplitr; swap; iexact H14; ipureintro; exact halves _ _
    · rw [hnA hc0 hc1]
      isplitl [H15]; · iexists _; isplitr; swap; iexact H15; ipureintro; exact (View.read_writes_full _ _ _ _ _).trans (congrArg (Step.cntS i I') (View.readCov_full _ _ _ _ _))
      isplitl [H16]; · iexists _; isplitr; swap; iexact H16; ipureintro; exact (View.read_writes_full _ _ _ _ _).trans (congrArg (Step.cntC i I') (View.readCov_full _ _ _ _ _))
      iexists _; isplitr; swap; iexact H17; ipureintro; exact put4_of _ _ _ rfl (put4_of _ _ _ rfl ((put4_of _ _ _ rfl (put4_of _ _ _ rfl (put4_of _ _ _ rfl (put4_of _ _ _ rfl rfl rfl) rfl) rfl) rfl).trans (zero4_eq _ _ rfl)) (congrArg (Step.loss i I') (rfl))) (congrArg (Step.valid I') (rfl))
    · rw [hnB hc0 hc1]
      isplitl [H15]; · iexists _; isplitr; swap; iexact H15; ipureintro; exact (View.read_writes_full _ _ _ _ _).trans (congrArg (Step.cntS i I') ((View.readAt_full _ _ _).trans (harg16.read_unread _)))
      isplitl [H16]; · iexists _; isplitr; swap; iexact H16; ipureintro; exact (View.read_writes_full _ _ _ _ _).trans (congrArg (Step.cntC i I') ((View.readAt_full _ _ _).trans (harg17.read_unread _)))
      iexists _; isplitr; swap; iexact H17; ipureintro; exact put4_of _ _ _ rfl (put4_of _ _ _ rfl (harg18.read_unread _) (congrArg (Step.loss i I') s0)) (congrArg (Step.valid I') s3)
    · rw [hnC hc0 hc1]
      isplitl [H15]; · iexists _; isplitr; swap; iexact H15; ipureintro; exact (View.read_writes_full _ _ _ _ _).trans (congrArg (Step.cntS i I') ((View.readAt_full _ _ _).trans (harg16.read_unread _)))
      isplitl [H16]; · iexists _; isplitr; swap; iexact H16; ipureintro; exact (View.read_writes_full _ _ _ _ _).trans (congrArg (Step.cntC i I') ((View.readAt_full _ _ _).trans (harg17.read_unread _)))
      iexists _; isplitr; swap; iexact H17; ipureintro; exact put4_of _ _ _ rfl (put4_of _ _ _ rfl (put4_of _ _ _ rfl (put4_of _ _ _ rfl (put4_of _ _ _ rfl (harg18.read_unread _) (congrArg (Step.loss i I') s0)) (congrArg (Step.valid I') s3))
          (congrArg₂ k0_pay3 (congrArg (Step.valid I') s3) ((View.readCov_full _ _ _ _ _).trans (congrArg (Step.cntS i I') ((View.readAt_full _ _ _).trans (harg16.read_unread _))))))
          (congrArg₂ k0_pay4 (congrArg (Step.valid I') s3) ((View.readCov_full _ _ _ _ _).trans (congrArg (Step.cntC i I') ((View.readAt_full _ _ _).trans (harg17.read_unread _))))))
          (congrArg k0_pay5 (congrArg (Step.loss i I') s0))
  · have hm := fun h => hs (hb.symm.trans h)
    let I' : Step.Ins F := ⟨x0, x1, x2, x3, x4, k0_pay12 x0 x1 x5 x7, x6, x8, x10⟩
    have hI' : I' = I := hI _ (h12 hs)
    rw [← hI']
    rcases hx with ⟨hc0, hc1⟩ | ⟨hc0, hc1⟩ | ⟨hc0, hc1⟩
    all_goals sl_exec (disch := first | sl_exact hc0 | sl_exact hc1 | sl_exact hm)
    all_goals sl_step
    all_goals iapply Hk
    all_goals
      isplitl [H0]; · iexists _; isplitr; swap; iexact H0; ipureintro; exact harg1.read_unread x0
      isplitl [H1]; · iexists _; isplitr; swap; iexact H1; ipureintro; exact harg2.read_unread x1
      isplitl [H2]; · iexists _; isplitr; swap; iexact H2; ipureintro; exact harg3.read_unread x2
      isplitl [H3]; · iexists _; isplitr; swap; iexact H3; ipureintro; exact harg4.read_unread x3
      isplitl [H4]; · iexists _; isplitr; swap; iexact H4; ipureintro; exact harg5.read_unread x4
      isplitl [H5]; · iexists _; isplitr; swap; iexact H5; ipureintro; exact harg6.read_unread x5
      isplitl [H6]; · iexists _; isplitr; swap; iexact H6; ipureintro; exact harg7.read_unread x6
      isplitl [H7]; · iexists _; isplitr; swap; iexact H7; ipureintro; exact harg8.read_unread x7
      isplitl [H8]; · iexists _; isplitr; swap; iexact H8; ipureintro; exact harg9.read_unread x8
      isplitl [H9]; · iexists _; isplitr; swap; iexact H9; ipureintro; exact harg10.read_unread x9
      isplitl [H10]; · iexists _; isplitr; swap; iexact H10; ipureintro; exact harg11.read_unread x10
      isplitl [H11]; · iexists _; isplitr; swap; iexact H11; ipureintro; exact harg12.read_unread x11
      isplitl [H12]; · iexists _; isplitr; swap; iexact H12; ipureintro; exact View.read_writes_full _ _ _ _ _
      isplitl [H13]; · iexists _; isplitr; swap; iexact H13; ipureintro; exact View.read_writes_full _ _ _ _ _
      isplitl [H14]; · iexists _; isplitr; swap; iexact H14; ipureintro; exact halves _ _
    · rw [hnA hc0 hc1]
      isplitl [H15]; · iexists _; isplitr; swap; iexact H15; ipureintro; exact (View.read_writes_full _ _ _ _ _).trans (congrArg (Step.cntS i I') (View.readCov_full _ _ _ _ _))
      isplitl [H16]; · iexists _; isplitr; swap; iexact H16; ipureintro; exact (View.read_writes_full _ _ _ _ _).trans (congrArg (Step.cntC i I') (View.readCov_full _ _ _ _ _))
      iexists _; isplitr; swap; iexact H17; ipureintro; exact put4_of _ _ _ rfl (put4_of _ _ _ rfl ((put4_of _ _ _ rfl (put4_of _ _ _ rfl (put4_of _ _ _ rfl (put4_of _ _ _ rfl rfl rfl) rfl) rfl) rfl).trans (zero4_eq _ _ rfl)) (congrArg (Step.loss i I') (rfl))) (congrArg (Step.valid I') (rfl))
    · rw [hnB hc0 hc1]
      isplitl [H15]; · iexists _; isplitr; swap; iexact H15; ipureintro; exact (View.read_writes_full _ _ _ _ _).trans (congrArg (Step.cntS i I') ((View.readAt_full _ _ _).trans (harg16.read_unread _)))
      isplitl [H16]; · iexists _; isplitr; swap; iexact H16; ipureintro; exact (View.read_writes_full _ _ _ _ _).trans (congrArg (Step.cntC i I') ((View.readAt_full _ _ _).trans (harg17.read_unread _)))
      iexists _; isplitr; swap; iexact H17; ipureintro; exact put4_of _ _ _ rfl (put4_of _ _ _ rfl (harg18.read_unread _) (congrArg (Step.loss i I') s0)) (congrArg (Step.valid I') s3)
    · rw [hnC hc0 hc1]
      isplitl [H15]; · iexists _; isplitr; swap; iexact H15; ipureintro; exact (View.read_writes_full _ _ _ _ _).trans (congrArg (Step.cntS i I') ((View.readAt_full _ _ _).trans (harg16.read_unread _)))
      isplitl [H16]; · iexists _; isplitr; swap; iexact H16; ipureintro; exact (View.read_writes_full _ _ _ _ _).trans (congrArg (Step.cntC i I') ((View.readAt_full _ _ _).trans (harg17.read_unread _)))
      iexists _; isplitr; swap; iexact H17; ipureintro; exact put4_of _ _ _ rfl (put4_of _ _ _ rfl (put4_of _ _ _ rfl (put4_of _ _ _ rfl (put4_of _ _ _ rfl (harg18.read_unread _) (congrArg (Step.loss i I') s0)) (congrArg (Step.valid I') s3))
          (congrArg₂ k0_pay3 (congrArg (Step.valid I') s3) ((View.readCov_full _ _ _ _ _).trans (congrArg (Step.cntS i I') ((View.readAt_full _ _ _).trans (harg16.read_unread _))))))
          (congrArg₂ k0_pay4 (congrArg (Step.valid I') s3) ((View.readCov_full _ _ _ _ _).trans (congrArg (Step.cntC i I') ((View.readAt_full _ _ _).trans (harg17.read_unread _))))))
          (congrArg k0_pay5 (congrArg (Step.loss i I') s0))

end Cert.KernelIdeal.Run

end
-- ==== Proof.Whole.lean ====
/- The launch of the kernel: every grid point's body run, the arrays left, the arguments unchanged. -/
module

public import proofs.«01_k».proof.Proof.Run
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A grid point is the first exactly where its number is 0. -/
theorem first_iff (t : Fin cfg0.N) : Step.First (grid0.coords t) ↔ t.val = 0 := by
  have hN : t.val < 16 := lt_of_lt_of_eq t.isLt (show cfg0.N = 16 from N_0)
  have hc : ((grid0.coords t) 0).val = t.val := by
    rw [Pipeline.Grid.coords_val (S := 1) (B := 16) t 0 (by decide) rfl]
    omega
  unfold Step.First
  rw [hc]
  have h : ∀ k : Fin 16, Scalar.cmpi .ne (Scalar.extui (Scalar.cmpi .eq (BitVec.ofNat 32 k.val) 0#32) : BitVec 32) 0#32 = 1#1 ↔ k.val = 0 := by decide
  exact h ⟨t.val, hN⟩

/-- A grid point is the last exactly where its number is 15. -/
theorem final_iff (t : Fin cfg0.N) : Step.Final (grid0.coords t) ↔ t.val = 15 := by
  have hN : t.val < 16 := lt_of_lt_of_eq t.isLt (show cfg0.N = 16 from N_0)
  have hc : ((grid0.coords t) 0).val = t.val := by
    rw [Pipeline.Grid.coords_val (S := 1) (B := 16) t 0 (by decide) rfl]
    omega
  unfold Step.Final
  rw [hc]
  have h : ∀ k : Fin 16, Scalar.cmpi .ne (Scalar.extui (Scalar.cmpi .eq (BitVec.ofNat 32 k.val) 15#32) : BitVec 32) 0#32 = 1#1 ↔ k.val = 15 := by decide
  exact h ⟨t.val, hN⟩

/-- What the body at point `t` reads of its inputs. -/
def ins (c : Dev nD) (t : Fin cfg0.N) : Step.Ins F :=
  ⟨iblk m c 0 t, iblk m c 1 t, iblk m c 2 t, iblk m c 3 t, iblk m c 4 t,
    Step.distS (iblk m c 0 t) (iblk m c 1 t) (iblk m c 5 t) (iblk m c 7 t) (iblk m c 9 t) (iblk m c 11 t),
    iblk m c 6 t, iblk m c 8 t, iblk m c 10 t⟩

/-- The accumulators after point `n`: each point's step over what the point before left. -/
def acc (c : Dev nD) : (n : ℕ) → n < cfg0.N → Step.Acc F
  | 0, h => Step.next (grid0.coords ⟨0, h⟩) (ins m c ⟨0, h⟩) ⟨k0_pay6, k0_pay7, Step.zero4⟩
  | n + 1, h => Step.next (grid0.coords ⟨n + 1, h⟩) (ins m c ⟨n + 1, h⟩) (acc c n (Nat.lt_of_succ_lt h))

/-- The first point's step starts over, so what the accumulators held is no matter. -/
theorem next_first (i : grid0.Coords) (I : Step.Ins F) (h : Step.First i) (A B : Step.Acc F) : Step.next i I A = Step.next i I B := by
  have hs : Step.start i A = Step.start i B := by unfold Step.start; rw [if_pos h, if_pos h]
  unfold Step.next
  rw [hs]

/-- The accumulators after the first point, whatever they held before it. -/
theorem acc_first (c : Dev nD) (t : Fin cfg0.N) (h0 : t.val = 0) (A : Step.Acc F) :
    Step.next (grid0.coords t) (ins m c t) A = acc m c t.val t.isLt := by
  obtain ⟨n, hn⟩ := t
  subst h0
  exact next_first _ _ ((first_iff _).mpr rfl) _ _

/-- The accumulators after a later point: its step over those after the point before. -/
theorem acc_later (c : Dev nD) (t : Fin cfg0.N) (h0 : ¬t.val = 0) :
    Step.next (grid0.coords t) (ins m c t) (acc m c (t.val - 1) (Nat.lt_of_le_of_lt (Nat.sub_le _ _) t.isLt)) = acc m c t.val t.isLt := by
  obtain ⟨n, hn⟩ := t
  cases n with
  | zero => exact absurd rfl h0
  | succ n => rfl

/-- The proof data of the one pipeline on core `c`: the arrays as the region finds them; after the body at point `t`
    each input's buffer at its block, the three row outputs at the point's results, and the three accumulators at `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Step.idxS (grid0.coords t) (ins m c t)
    | ⟨13, _⟩ => Step.idxC (grid0.coords t) (ins m c t)
    | ⟨14, _⟩ => Step.q (grid0.coords t) (ins m c t)
    | ⟨15, _⟩ => (acc m c t.val t.isLt).cs
    | ⟨16, _⟩ => (acc m c t.val t.isLt).cc
    | ⟨17, _⟩ => (acc m c t.val t.isLt).st
    | ⟨_ + 18, h⟩ => absurd h (Nat.not_lt.2 (Nat.le_add_left _ _))
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = Step.idxS (grid0.coords t) (ins m c t) := by dsimp only [dats]
theorem after_13 (c : Dev nD) (t : Fin cfg0.N) : (dats m 0 c).after 13 t = Step.idxC (grid0.coords t) (ins m c t) := by dsimp only [dats]
theorem after_14 (c : Dev nD) (t : Fin cfg0.N) : (dats m 0 c).after 14 t = Step.q (grid0.coords t) (ins m c t) := by dsimp only [dats]
theorem after_15 (c : Dev nD) (t : Fin cfg0.N) : (dats m 0 c).after 15 t = (acc m c t.val t.isLt).cs := by dsimp only [dats]
theorem after_16 (c : Dev nD) (t : Fin cfg0.N) : (dats m 0 c).after 16 t = (acc m c t.val t.isLt).cc := by dsimp only [dats]
theorem after_17 (c : Dev nD) (t : Fin cfg0.N) : (dats m 0 c).after 17 t = (acc m c t.val t.isLt).st := by dsimp only [dats]

/-! Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! Each accumulator's buffer holds, after the first point, what the point before left. -/
theorem before_15 (c : Dev nD) (t : Fin cfg0.N) (h0 : ¬t.val = 0) (d) :
    (dats m 0 c).before 15 t d = (acc m c (t.val - 1) (Nat.lt_of_le_of_lt (Nat.sub_le _ _) t.isLt)).cs := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
theorem before_16 (c : Dev nD) (t : Fin cfg0.N) (h0 : ¬t.val = 0) (d) :
    (dats m 0 c).before 16 t d = (acc m c (t.val - 1) (Nat.lt_of_le_of_lt (Nat.sub_le _ _) t.isLt)).cc := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before_17 (c : Dev nD) (t : Fin cfg0.N) (h0 : ¬t.val = 0) (d) :
    (dats m 0 c).before 17 t d = (acc m c (t.val - 1) (Nat.lt_of_le_of_lt (Nat.sub_le _ _) t.isLt)).st := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4800000 in
/-- The body at any point: from the windows' contents before it to those the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17]
  have hN : t.val < 16 := lt_of_lt_of_eq t.isLt (show cfg0.N = 16 from N_0)
  have hx : (Step.First (grid0.coords t) ∧ ¬Step.Final (grid0.coords t)) ∨ (¬Step.First (grid0.coords t) ∧ ¬Step.Final (grid0.coords t))
      ∨ (¬Step.First (grid0.coords t) ∧ Step.Final (grid0.coords t)) := by
    rw [first_iff, final_iff]
    omega
  by_cases h0 : t.val = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (Run.run c (grid0.coords t) _ _ _ _ _ _ _ _ _ _ _ _ _ _ _ _ _ _ _ _ _ _ _ _ _ _ _ _ _ _ _ _ _ _ _ _ hx (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ⟨(dats m 0 c).before 15 t d15, (dats m 0 c).before 16 t d16, (dats m 0 c).before 17 t d17⟩ (ins m c t) rfl Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [H16]; · iexact H16
    isplitl [H17]; · iexact H17
    iintro ⟨H0, H1, H2, H3, H4, H5, H6, H7, H8, H9, H10, H11, H12, H13, H14, H15, H16, H17⟩
    rw [acc_first m c t h0]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · simp only [before_15 m c t h0, before_16 m c t h0, before_17 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (Run.run c (grid0.coords t) _ _ _ _ _ _ _ _ _ _ _ _ _ _ _ _ _ _ _ _ _ _ _ _ _ _ _ _ _ _ _ _ _ _ _ _ hx (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)) (ins m c t) rfl Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [H16]; · iexact H16
    isplitl [H17]; · iexact H17
    iintro ⟨H0, H1, H2, H3, H4, H5, H6, H7, H8, H9, H10, H11, H12, H13, H14, H15, H16, H17⟩
    rw [acc_later m c t h0]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every weakly fair execution ends, with the arrays at what the proof data gives and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c)))⟩, h.2⟩) (run_main_quiescent m ρ)

end Cert.KernelIdeal.Whole

end
-- ==== Proof.Frames.lean ====
/- Every program's run leaves its arguments unchanged and every counter at zero. -/
module

public import proofs.«01_k».proof.Defs
public import proofs.«01_k».proof.Proof.Whole
public import proofs.«01_k».proof.Proof.BitsWhole
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- The kernel over the reals: its arguments end unchanged and every counter ends at zero. -/
theorem frame_ideal : Cert.quiescent_KernelIdeal (hKernelIdeal := Cert.KernelIdeal.Gen.facts) :=
  fun m g _ => Cert.KernelIdeal.Whole.frame (F := Ideal) m g

/-- The kernel over bits: its arguments end unchanged and every counter ends at zero. -/
theorem frame_bits : Cert.quiescent_Kernel (hKernel := Cert.Kernel.Gen.facts) :=
  fun m g _ => Cert.Kernel.Whole.frame (F := Bits) m g

/-- The reference: its arguments end unchanged; it declares no counter. -/
theorem frame_reference : Cert.quiescent_ReferenceIdeal (hReferenceIdeal := Cert.ReferenceIdeal.Gen.facts) :=
  fun m g _ => (θ_run _ _ _).mono (fun r h => ⟨fun c => (h c).2.2.2.2.2.2, sem_eq_zero_of_no_sems (by decide) r.2⟩)
    (Cert.ReferenceIdeal.Value.run (F := Ideal) m g)

end Cert.Proof

end
-- ==== Proof.RefRead.lean ====
module

public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

set_option maxRecDepth 16384

noncomputable section

namespace Cert.RefRead

open Idealize.ShloMosaic Idealize.SL.Sem
open Cert.ReferenceIdeal Cert.ReferenceIdeal.Gen Cert.ReferenceIdeal.Value

variable (V : Valuation τ sig (Elt Ideal))

/-- The rows whose entries' absolute values sum to less than the bound. -/
def bgR (x : FVec Ideal S16384x512 .f32) : IVec S16384 1 :=
  cmpf .olt (Host.reduceAdd (Host.absf x) (constant S_ .f32 0x00000000#32) reducesTo_S16384x512_S16384_d1 h_S_) (broadcastInDim S16384 ![] bcast_S_S16384 (constant S_ .f32 0x358637BD#32))

theorem bgR_eq : (res_main_v5 V : IVec S16384 1) = bgR (res_main_v0 V) := rfl

/-- The codes of the foreground. -/
def fgR  : IVec S1024 1 :=
  cmpi .sge (iotaInDim S1024 32 0) (broadcastInDim S1024 ![] bcast_S_S1024 (constantI S_ 32 16#32))

theorem fgR_eq : (res_main_v26 V : IVec S1024 1) = fgR  := rfl

/-- The first table's negated squared distances. -/
def lS (x : FVec Ideal S16384x256 .f32) (w : FVec Ideal S1024x256 .f32) : FVec Ideal S16384x1024 .f32 :=
  Host.negf (subf (addf (broadcastInDim S16384x1024 ![0, 1] bcast_S16384x1_S16384x1024_0_1 (broadcastInDim S16384x1 ![0] bcast_S16384_S16384x1_0 (Host.reduceAdd (mulf x x) (constant S_ .f32 0x00000000#32) reducesTo_S16384x256_S16384_d1 h_S_))) (broadcastInDim S16384x1024 ![0, 1] bcast_S1x1024_S16384x1024_0_1 (broadcastInDim S1x1024 ![1] bcast_S1024_S1x1024_1 (Host.reduceAdd (mulf w w) (constant S_ .f32 0x00000000#32) reducesTo_S1024x256_S1024_d1 h_S_)))) (mulf (broadcastInDim S16384x1024 ![] bcast_S_S16384x1024 (constant S_ .f32 0x40000000#32)) (Host.dotGeneral dot_S16384x256_S256x1024_S16384x1024_1_0_0_1_n_n none x (transpose S256x1024 [1, 0] w transposes_S1024x256_S256x1024_1_0))))

theorem lS_eq : (res_main_v22 V : FVec Ideal S16384x1024 .f32) = lS (res_main_v6 V) (V (Proc.devRef .tc main_arg2)) := rfl

/-- The words the noise is made of. -/
def uS (p q : IVec S16384x1024 32) : IVec S16384x1024 32 :=
  xori (addi q (broadcastInDim S16384x1024 ![] bcast_S_S16384x1024 (constantI S_ 32 1724713080#32))) (addi (addi (xori q (ori (Host.shli p (broadcastInDim S16384x1024 ![] bcast_S_S16384x1024 (constantI S_ 32 6#32))) (Host.shrui p (broadcastInDim S16384x1024 ![] bcast_S_S16384x1024 (constantI S_ 32 26#32))))) (broadcastInDim S16384x1024 ![] bcast_S_S16384x1024 (constantI S_ 32 1832780943#32))) (broadcastInDim S16384x1024 ![] bcast_S_S16384x1024 (constantI S_ 32 5#32)))

/-- The noise. -/
def nS (u : IVec S16384x1024 32) : FVec Ideal S16384x1024 .f32 :=
  Host.negf (Host.log (Host.negf (Host.log (maximumf (broadcastInDim S16384x1024 ![] bcast_S_S16384x1024 (constant S_ .f32 0x1E3CE508#32)) (addf (mulf (subf (bitcastToFloat  .f32 (ori (Host.shrui u (broadcastInDim S16384x1024 ![] bcast_S_S16384x1024 (constantI S_ 32 9#32))) (broadcastInDim S16384x1024 ![] bcast_S_S16384x1024 (constantI S_ 32 1065353216#32)))) (broadcastInDim S16384x1024 ![] bcast_S_S16384x1024 (constant S_ .f32 0x3F800000#32))) (broadcastInDim S16384x1024 ![] bcast_S_S16384x1024 (constant S_ .f32 0x3F800000#32))) (broadcastInDim S16384x1024 ![] bcast_S_S16384x1024 (constant S_ .f32 0x1E3CE508#32)))))))

/-- The masked distances. -/
def kS (o : IVec S_ 1) (b : IVec S16384 1) (f : IVec S1024 1) (L : FVec Ideal S16384x1024 .f32) : FVec Ideal S16384x1024 .f32 :=
  select (broadcastInDim S16384x1024 ![] bcast_S_S16384x1024 o) (select (andi (broadcastInDim S16384x1024 ![0, 1] bcast_S16384x1_S16384x1024_0_1 (broadcastInDim S16384x1 ![0] bcast_S16384_S16384x1_0 (noti b))) (broadcastInDim S16384x1024 ![0, 1] bcast_S1x1024_S16384x1024_0_1 (broadcastInDim S1x1024 ![1] bcast_S1024_S1x1024_1 (noti f)))) (broadcastInDim S16384x1024 ![] bcast_S_S16384x1024 (id (constant S_ .f32 0xFF800000#32))) (select (andi (broadcastInDim S16384x1024 ![0, 1] bcast_S16384x1_S16384x1024_0_1 (broadcastInDim S16384x1 ![0] bcast_S16384_S16384x1_0 b)) (broadcastInDim S16384x1024 ![0, 1] bcast_S1x1024_S16384x1024_0_1 (broadcastInDim S1x1024 ![1] bcast_S1024_S1x1024_1 f))) (broadcastInDim S16384x1024 ![] bcast_S_S16384x1024 (id (constant S_ .f32 0xFF800000#32))) L)) L

/-- The first block's noisy scores. -/
def zS (o : IVec S_ 1) (b : IVec S16384 1) (f : IVec S1024 1) (L : FVec Ideal S16384x1024 .f32) (p q : IVec S16384x1024 32) : FVec Ideal S16384x1024 .f32 :=
  Host.divf (addf (kS o b f L) (nS (uS p q))) (broadcastInDim S16384x1024 ![] bcast_S_S16384x1024 (constant S_ .f32 0x3F800000#32))

theorem zS_eq : (res_main_v242 V : FVec Ideal S16384x1024 .f32) = zS (Host.reduce IntOp.ori (res_main_v5 V) (constantI S_ 1 0#1) reducesTo_S16384_S_d0 h_S_) (res_main_v5 V) (res_main_v26 V) (res_main_v22 V) (res_main_v208 V) (res_main_v209 V) := rfl

/-- The second table's negated squared distances. -/
def lC (x : FVec Ideal S16384x256 .f32) (w : FVec Ideal S64x256 .f32) : FVec Ideal S16384x64 .f32 :=
  Host.negf (subf (addf (broadcastInDim S16384x64 ![0, 1] bcast_S16384x1_S16384x64_0_1 (broadcastInDim S16384x1 ![0] bcast_S16384_S16384x1_0 (Host.reduceAdd (mulf x x) (constant S_ .f32 0x00000000#32) reducesTo_S16384x256_S16384_d1 h_S_))) (broadcastInDim S16384x64 ![0, 1] bcast_S1x64_S16384x64_0_1 (broadcastInDim S1x64 ![1] bcast_S64_S1x64_1 (Host.reduceAdd (mulf w w) (constant S_ .f32 0x00000000#32) reducesTo_S64x256_S64_d1 h_S_)))) (mulf (broadcastInDim S16384x64 ![] bcast_S_S16384x64 (constant S_ .f32 0x40000000#32)) (Host.dotGeneral dot_S16384x256_S256x64_S16384x64_1_0_0_1_n_n none x (transpose S256x64 [1, 0] w transposes_S64x256_S256x64_1_0))))

/-- The words the noise is made of. -/
def uC (p q : IVec S16384x64 32) : IVec S16384x64 32 :=
  xori (addi q (broadcastInDim S16384x64 ![] bcast_S_S16384x64 (constantI S_ 32 3050711811#32))) (addi (addi (xori q (ori (Host.shli p (broadcastInDim S16384x64 ![] bcast_S_S16384x64 (constantI S_ 32 6#32))) (Host.shrui p (broadcastInDim S16384x64 ![] bcast_S_S16384x64 (constantI S_ 32 26#32))))) (broadcastInDim S16384x64 ![] bcast_S_S16384x64 (constantI S_ 32 64467757#32))) (broadcastInDim S16384x64 ![] bcast_S_S16384x64 (constantI S_ 32 5#32)))

/-- The noise. -/
def nC (u : IVec S16384x64 32) : FVec Ideal S16384x64 .f32 :=
  Host.negf (Host.log (Host.negf (Host.log (maximumf (broadcastInDim S16384x64 ![] bcast_S_S16384x64 (constant S_ .f32 0x1E3CE508#32)) (addf (mulf (subf (bitcastToFloat  .f32 (ori (Host.shrui u (broadcastInDim S16384x64 ![] bcast_S_S16384x64 (constantI S_ 32 9#32))) (broadcastInDim S16384x64 ![] bcast_S_S16384x64 (constantI S_ 32 1065353216#32)))) (broadcastInDim S16384x64 ![] bcast_S_S16384x64 (constant S_ .f32 0x3F800000#32))) (broadcastInDim S16384x64 ![] bcast_S_S16384x64 (constant S_ .f32 0x3F800000#32))) (broadcastInDim S16384x64 ![] bcast_S_S16384x64 (constant S_ .f32 0x1E3CE508#32)))))))

/-- The second block's noisy scores. -/
def zC (L : FVec Ideal S16384x64 .f32) (p q : IVec S16384x64 32) : FVec Ideal S16384x64 .f32 :=
  Host.divf (addf L (nC (uC p q))) (broadcastInDim S16384x64 ![] bcast_S_S16384x64 (constant S_ .f32 0x3F800000#32))

theorem zC_eq : (res_main_v496 V : FVec Ideal S16384x64 .f32) = zC (lC (res_main_v7 V) (V (Proc.devRef .tc main_arg3))) (res_main_v462 V) (res_main_v463 V) := rfl

/-- The exponentials of the scores less a row's bound. -/
def eS (z : FVec Ideal S16384x1024 .f32) (M : FVec Ideal S16384 .f32) : FVec Ideal S16384x1024 .f32 :=
  Host.exp (subf z (broadcastInDim S16384x1024 ![0, 1] bcast_S16384x1_S16384x1024_0_1 (broadcastInDim S16384x1 ![0] bcast_S16384_S16384x1_0 (maximumf (broadcastInDim S16384 ![] bcast_S_S16384 (constant S_ .f32 0xFF800000#32)) M))))

theorem eS_eq : (res_main_v249 V : FVec Ideal S16384x1024 .f32) = eS (res_main_v242 V) (Host.reduce FloatOps.maximumf (res_main_v242 V) (constant S_ .f32 0xFF800000#32) reducesTo_S16384x1024_S16384_d1 h_S_) := rfl

/-- The normalised exponentials. -/
def yS (e : FVec Ideal S16384x1024 .f32) : FVec Ideal S16384x1024 .f32 :=
  Host.divf e (broadcastInDim S16384x1024 ![0, 1] bcast_S16384x1_S16384x1024_0_1 (broadcastInDim S16384x1 ![0] bcast_S16384_S16384x1_0 (Host.reduceAdd e (constant S_ .f32 0x00000000#32) reducesTo_S16384x1024_S16384_d1 h_S_)))

theorem yS_eq : (res_main_v253 V : FVec Ideal S16384x1024 .f32) = yS (res_main_v249 V) := rfl

/-- The numbers of the best codes, the others' being one past the last. -/
def sS (y : FVec Ideal S16384x1024 .f32) (M : FVec Ideal S16384 .f32) : IVec S16384x1024 32 :=
  select (cmpf .oeq y (broadcastInDim S16384x1024 ![0, 1] bcast_S16384x1_S16384x1024_0_1 (broadcastInDim S16384x1 ![0] bcast_S16384_S16384x1_0 M))) (iotaInDim S16384x1024 32 1) (broadcastInDim S16384x1024 ![] bcast_S_S16384x1024 (id (constantI S_ 32 1024#32)))

/-- The least number of each row. -/
def iS (s : IVec S16384x1024 32) : IVec S16384 32 :=
  Host.reduce IntOp.minsi s (constantI S_ 32 2147483647#32) reducesTo_S16384x1024_S16384_d1 h_S_

theorem iS_eq : (Host.reduce IntOp.minsi (select (cmpf .oeq (res_main_v253 V) (broadcastInDim S16384x1024 ![0, 1] bcast_S16384x1_S16384x1024_0_1 (broadcastInDim S16384x1 ![0] bcast_S16384_S16384x1_0 (Host.reduce FloatOps.maximumf (res_main_v253 V) (constant S_ .f32 0xFF800000#32) reducesTo_S16384x1024_S16384_d1 h_S_)))) (iotaInDim S16384x1024 32 1) (broadcastInDim S16384x1024 ![] bcast_S_S16384x1024 (id (constantI S_ 32 1024#32)))) (constantI S_ 32 2147483647#32) reducesTo_S16384x1024_S16384_d1 h_S_ : IVec S16384 32) = iS (sS (res_main_v253 V) (Host.reduce FloatOps.maximumf (res_main_v253 V) (constant S_ .f32 0xFF800000#32) reducesTo_S16384x1024_S16384_d1 h_S_)) := rfl

/-- The one-hot rows as the reference adds them up. -/
def hS (i : IVec S16384 32) (y : FVec Ideal S16384x1024 .f32) : FVec Ideal S16384x1024 .f32 :=
  addf (subf (uitofp .f32 (cmpi .eq (broadcastInDim S16384x1024 ![0, 1] bcast_S16384x1_S16384x1024_0_1 (broadcastInDim S16384x1 ![0] bcast_S16384_S16384x1_0 i)) (broadcastInDim S16384x1024 ![0, 1] bcast_S1x1024_S16384x1024_0_1 (iotaInDim S1x1024 32 1)))) y) y

theorem hS_eq : (res_main_v263 V : FVec Ideal S16384x1024 .f32) = hS (iS (sS (res_main_v253 V) (Host.reduce FloatOps.maximumf (res_main_v253 V) (constant S_ .f32 0xFF800000#32) reducesTo_S16384x1024_S16384_d1 h_S_))) (res_main_v253 V) := rfl

/-- The share of the valid rows each code has. -/
def pS (h : FVec Ideal S16384x1024 .f32) (m : FVec Ideal S16384 .f32) : FVec Ideal S1024 .f32 :=
  Host.divf (Host.reduceAdd (mulf h (broadcastInDim S16384x1024 ![0, 1] bcast_S16384x1_S16384x1024_0_1 (broadcastInDim S16384x1 ![0] bcast_S16384_S16384x1_0 m))) (constant S_ .f32 0x00000000#32) reducesTo_S16384x1024_S1024_d0 h_S_) (broadcastInDim S1024 ![] bcast_S_S1024 (maximumf (Host.reduceAdd m (constant S_ .f32 0x00000000#32) reducesTo_S16384_S_d0 h_S_) (constant S_ .f32 0x3F800000#32)))

theorem pS_eq : (res_main_v273 V : FVec Ideal S1024 .f32) = pS (res_main_v263 V) (res_main_v265 V) := rfl

/-- The perplexity. -/
def perpS (p : FVec Ideal S1024 .f32) : FVec Ideal S_ .f32 :=
  Host.exp (Host.negf (Host.reduceAdd (mulf p (Host.log (addf p (broadcastInDim S1024 ![] bcast_S_S1024 (constant S_ .f32 0x2EDBE6FF#32))))) (constant S_ .f32 0x00000000#32) reducesTo_S1024_S_d0 h_S_))

/-- The exponentials of the scores less a row's bound. -/
def eC (z : FVec Ideal S16384x64 .f32) (M : FVec Ideal S16384 .f32) : FVec Ideal S16384x64 .f32 :=
  Host.exp (subf z (broadcastInDim S16384x64 ![0, 1] bcast_S16384x1_S16384x64_0_1 (broadcastInDim S16384x1 ![0] bcast_S16384_S16384x1_0 (maximumf (broadcastInDim S16384 ![] bcast_S_S16384 (constant S_ .f32 0xFF800000#32)) M))))

theorem eC_eq : (res_main_v503 V : FVec Ideal S16384x64 .f32) = eC (res_main_v496 V) (Host.reduce FloatOps.maximumf (res_main_v496 V) (constant S_ .f32 0xFF800000#32) reducesTo_S16384x64_S16384_d1 h_S_) := rfl

/-- The normalised exponentials. -/
def yC (e : FVec Ideal S16384x64 .f32) : FVec Ideal S16384x64 .f32 :=
  Host.divf e (broadcastInDim S16384x64 ![0, 1] bcast_S16384x1_S16384x64_0_1 (broadcastInDim S16384x1 ![0] bcast_S16384_S16384x1_0 (Host.reduceAdd e (constant S_ .f32 0x00000000#32) reducesTo_S16384x64_S16384_d1 h_S_)))

theorem yC_eq : (res_main_v507 V : FVec Ideal S16384x64 .f32) = yC (res_main_v503 V) := rfl

/-- The numbers of the best codes, the others' being one past the last. -/
def sC (y : FVec Ideal S16384x64 .f32) (M : FVec Ideal S16384 .f32) : IVec S16384x64 32 :=
  select (cmpf .oeq y (broadcastInDim S16384x64 ![0, 1] bcast_S16384x1_S16384x64_0_1 (broadcastInDim S16384x1 ![0] bcast_S16384_S16384x1_0 M))) (iotaInDim S16384x64 32 1) (broadcastInDim S16384x64 ![] bcast_S_S16384x64 (id (constantI S_ 32 64#32)))

/-- The least number of each row. -/
def iC (s : IVec S16384x64 32) : IVec S16384 32 :=
  Host.reduce IntOp.minsi s (constantI S_ 32 2147483647#32) reducesTo_S16384x64_S16384_d1 h_S_

theorem iC_eq : (Host.reduce IntOp.minsi (select (cmpf .oeq (res_main_v507 V) (broadcastInDim S16384x64 ![0, 1] bcast_S16384x1_S16384x64_0_1 (broadcastInDim S16384x1 ![0] bcast_S16384_S16384x1_0 (Host.reduce FloatOps.maximumf (res_main_v507 V) (constant S_ .f32 0xFF800000#32) reducesTo_S16384x64_S16384_d1 h_S_)))) (iotaInDim S16384x64 32 1) (broadcastInDim S16384x64 ![] bcast_S_S16384x64 (id (constantI S_ 32 64#32)))) (constantI S_ 32 2147483647#32) reducesTo_S16384x64_S16384_d1 h_S_ : IVec S16384 32) = iC (sC (res_main_v507 V) (Host.reduce FloatOps.maximumf (res_main_v507 V) (constant S_ .f32 0xFF800000#32) reducesTo_S16384x64_S16384_d1 h_S_)) := rfl

/-- The one-hot rows as the reference adds them up. -/
def hC (i : IVec S16384 32) (y : FVec Ideal S16384x64 .f32) : FVec Ideal S16384x64 .f32 :=
  addf (subf (uitofp .f32 (cmpi .eq (broadcastInDim S16384x64 ![0, 1] bcast_S16384x1_S16384x64_0_1 (broadcastInDim S16384x1 ![0] bcast_S16384_S16384x1_0 i)) (broadcastInDim S16384x64 ![0, 1] bcast_S1x64_S16384x64_0_1 (iotaInDim S1x64 32 1)))) y) y

theorem hC_eq : (res_main_v517 V : FVec Ideal S16384x64 .f32) = hC (iC (sC (res_main_v507 V) (Host.reduce FloatOps.maximumf (res_main_v507 V) (constant S_ .f32 0xFF800000#32) reducesTo_S16384x64_S16384_d1 h_S_))) (res_main_v507 V) := rfl

/-- The share of the valid rows each code has. -/
def pC (h : FVec Ideal S16384x64 .f32) (m : FVec Ideal S16384 .f32) : FVec Ideal S64 .f32 :=
  Host.divf (Host.reduceAdd (mulf h (broadcastInDim S16384x64 ![0, 1] bcast_S16384x1_S16384x64_0_1 (broadcastInDim S16384x1 ![0] bcast_S16384_S16384x1_0 m))) (constant S_ .f32 0x00000000#32) reducesTo_S16384x64_S64_d0 h_S_) (broadcastInDim S64 ![] bcast_S_S64 (maximumf (Host.reduceAdd m (constant S_ .f32 0x00000000#32) reducesTo_S16384_S_d0 h_S_) (constant S_ .f32 0x3F800000#32)))

theorem pC_eq : (res_main_v527 V : FVec Ideal S64 .f32) = pC (res_main_v517 V) (res_main_v519 V) := rfl

/-- The perplexity. -/
def perpC (p : FVec Ideal S64 .f32) : FVec Ideal S_ .f32 :=
  Host.exp (Host.negf (Host.reduceAdd (mulf p (Host.log (addf p (broadcastInDim S64 ![] bcast_S_S64 (constant S_ .f32 0x2EDBE6FF#32))))) (constant S_ .f32 0x00000000#32) reducesTo_S64_S_d0 h_S_))

/-- The two tables' rows, side by side. -/
def qR (h : FVec Ideal S16384x1024 .f32) (g : FVec Ideal S16384x64 .f32) (w : FVec Ideal S1024x256 .f32) (v : FVec Ideal S64x256 .f32) : FVec Ideal S16384x512 .f32 :=
  concatenate S16384x512 1 [⟨S16384x256, (Host.dotGeneral dot_S16384x1024_S1024x256_S16384x256_1_0_0_1_n_n none h w)⟩, ⟨S16384x256, (Host.dotGeneral dot_S16384x64_S64x256_S16384x256_1_0_0_1_n_n none g v)⟩] concatenates_S16384x256_S16384x256_S16384x512_d1

theorem qR_eq : (res_main_v535 V : FVec Ideal S16384x512 .f32) = qR (res_main_v263 V) (res_main_v517 V) (V (Proc.devRef .tc main_arg2)) (V (Proc.devRef .tc main_arg3)) := rfl

/-- The loss. -/
def lossR (u : FVec Ideal S16384x512 .f32) : FVec Ideal S_ .f32 :=
  addf (Host.divf (Host.reduceAdd (mulf u u) (constant S_ .f32 0x00000000#32) reducesTo_S16384x512_S_d0_1 h_S_) (constant S_ .f32 0x4B000000#32)) (mulf (constant S_ .f32 0x3E800000#32) (Host.divf (Host.reduceAdd (mulf u u) (constant S_ .f32 0x00000000#32) reducesTo_S16384x512_S_d0_1 h_S_) (constant S_ .f32 0x4B000000#32)))

end Cert.RefRead
-- ==== Proof.RefAt.lean ====
module

public import proofs.«01_k».proof.Proof.Gen.ReferenceIdeal.Run
public import proofs.«01_k».proof.Proof.RefRead
public import Idealize.ShloMosaic.Lib.Pointwise
public import Idealize.ShloMosaic.Lib.Tactic.CleanTypes
public import Idealize.ShloMosaic.Lib.Routing.OpsOrder

@[expose] public section

set_option maxRecDepth 16384

noncomputable section

namespace Cert.RefRead

open Idealize.ShloMosaic Idealize.SL.Sem
open Cert.ReferenceIdeal Cert.ReferenceIdeal.Gen Cert.ReferenceIdeal.Value

/-- The noise a word stands for. -/
def noise (w : BitVec 32) : EReal :=
  -Ideal.log (-Ideal.log (max (Ideal.ofBits .f32 0x1E3CE508#32) (Ideal.ofBits .f32 (w >>> 9 ||| 1065353216#32) - 1 + Ideal.ofBits .f32 0x1E3CE508#32)))

theorem lS_at (x : FVec Ideal S16384x256 .f32) (w : FVec Ideal S1024x256 .f32) (r : Fin 16384) (j : Fin 1024) :
    lS x w (ix2 r j) = -((∑ k : Fin 256, x (ix2 r k) * x (ix2 r k)) + (∑ k : Fin 256, w (ix2 j k) * w (ix2 j k)) - Ideal.ofBits .f32 0x40000000#32 * ∑ k : Fin 256, x (ix2 r k) * w (ix2 j k)) := by
  unfold lS; pointwise

theorem eS_at (z : FVec Ideal S16384x1024 .f32) (M : FVec Ideal S16384 .f32) (r : Fin 16384) (j : Fin 1024) :
    eS z M (ix2 r j) = Ideal.exp (z (ix2 r j) - max (Ideal.ofBits .f32 0xFF800000#32) (M (ix1 r))) := by
  unfold eS; pointwise

theorem yS_at (e : FVec Ideal S16384x1024 .f32) (r : Fin 16384) (j : Fin 1024) :
    yS e (ix2 r j) = Ideal.div (e (ix2 r j)) (∑ k : Fin 1024, e (ix2 r k)) := by
  unfold yS; pointwise

theorem sS_at (y : FVec Ideal S16384x1024 .f32) (M : FVec Ideal S16384 .f32) (r : Fin 16384) (j : Fin 1024) :
    sS y M (ix2 r j) = Scalar.select (Ideal.cmp .oeq (y (ix2 r j)) (M (ix1 r))) (BitVec.ofNat 32 j.val) 1024#32 := by
  unfold sS; pointwise; try simp only [id, constantI]

theorem iS_at (s : IVec S16384x1024 32) (r : Fin 16384) :
    iS s (ix1 r) = Finset.univ.fold IntOp.minsi 2147483647#32 fun k : Fin 1024 => s (ix2 r k) := by
  unfold iS; pointwise

theorem mS_at (y : FVec Ideal S16384x1024 .f32) (r : Fin 16384) :
    (Host.reduce FloatOps.maximumf y (constant S_ .f32 0xFF800000#32) reducesTo_S16384x1024_S16384_d1 h_S_ : FVec Ideal S16384 .f32) (ix1 r) = Finset.univ.fold max (Ideal.ofBits .f32 0xFF800000#32) fun k : Fin 1024 => y (ix2 r k) := by
  pointwise

theorem hS_at (i : IVec S16384 32) (y : FVec Ideal S16384x1024 .f32) (r : Fin 16384) (j : Fin 1024) :
    hS i y (ix2 r j) = FloatOps.uitofp .f32 (IntOp.cmpi .eq (i (ix1 r)) (BitVec.ofNat 32 j.val)) - y (ix2 r j) + y (ix2 r j) := by
  unfold hS; pointwise

theorem pS_at (h : FVec Ideal S16384x1024 .f32) (m : FVec Ideal S16384 .f32) (j : Fin 1024) :
    pS h m (ix1 j) = Ideal.div (∑ r : Fin 16384, h (ix2 r j) * m (ix1 r)) (max (∑ r : Fin 16384, m (ix1 r)) 1) := by
  unfold pS; pointwise

theorem perpS_at (p : FVec Ideal S1024 .f32) :
    perpS p ix0 = Ideal.exp (-(∑ j : Fin 1024, p (ix1 j) * Ideal.log (p (ix1 j) + Ideal.ofBits .f32 0x2EDBE6FF#32))) := by
  unfold perpS; pointwise

theorem lC_at (x : FVec Ideal S16384x256 .f32) (w : FVec Ideal S64x256 .f32) (r : Fin 16384) (j : Fin 64) :
    lC x w (ix2 r j) = -((∑ k : Fin 256, x (ix2 r k) * x (ix2 r k)) + (∑ k : Fin 256, w (ix2 j k) * w (ix2 j k)) - Ideal.ofBits .f32 0x40000000#32 * ∑ k : Fin 256, x (ix2 r k) * w (ix2 j k)) := by
  unfold lC; pointwise

theorem eC_at (z : FVec Ideal S16384x64 .f32) (M : FVec Ideal S16384 .f32) (r : Fin 16384) (j : Fin 64) :
    eC z M (ix2 r j) = Ideal.exp (z (ix2 r j) - max (Ideal.ofBits .f32 0xFF800000#32) (M (ix1 r))) := by
  unfold eC; pointwise

theorem yC_at (e : FVec Ideal S16384x64 .f32) (r : Fin 16384) (j : Fin 64) :
    yC e (ix2 r j) = Ideal.div (e (ix2 r j)) (∑ k : Fin 64, e (ix2 r k)) := by
  unfold yC; pointwise

theorem sC_at (y : FVec Ideal S16384x64 .f32) (M : FVec Ideal S16384 .f32) (r : Fin 16384) (j : Fin 64) :
    sC y M (ix2 r j) = Scalar.select (Ideal.cmp .oeq (y (ix2 r j)) (M (ix1 r))) (BitVec.ofNat 32 j.val) 64#32 := by
  unfold sC; pointwise; try simp only [id, constantI]

theorem iC_at (s : IVec S16384x64 32) (r : Fin 16384) :
    iC s (ix1 r) = Finset.univ.fold IntOp.minsi 2147483647#32 fun k : Fin 64 => s (ix2 r k) := by
  unfold iC; pointwise

theorem mC_at (y : FVec Ideal S16384x64 .f32) (r : Fin 16384) :
    (Host.reduce FloatOps.maximumf y (constant S_ .f32 0xFF800000#32) reducesTo_S16384x64_S16384_d1 h_S_ : FVec Ideal S16384 .f32) (ix1 r) = Finset.univ.fold max (Ideal.ofBits .f32 0xFF800000#32) fun k : Fin 64 => y (ix2 r k) := by
  pointwise

theorem hC_at (i : IVec S16384 32) (y : FVec Ideal S16384x64 .f32) (r : Fin 16384) (j : Fin 64) :
    hC i y (ix2 r j) = FloatOps.uitofp .f32 (IntOp.cmpi .eq (i (ix1 r)) (BitVec.ofNat 32 j.val)) - y (ix2 r j) + y (ix2 r j) := by
  unfold hC; pointwise

theorem pC_at (h : FVec Ideal S16384x64 .f32) (m : FVec Ideal S16384 .f32) (j : Fin 64) :
    pC h m (ix1 j) = Ideal.div (∑ r : Fin 16384, h (ix2 r j) * m (ix1 r)) (max (∑ r : Fin 16384, m (ix1 r)) 1) := by
  unfold pC; pointwise

theorem perpC_at (p : FVec Ideal S64 .f32) :
    perpC p ix0 = Ideal.exp (-(∑ j : Fin 64, p (ix1 j) * Ideal.log (p (ix1 j) + Ideal.ofBits .f32 0x2EDBE6FF#32))) := by
  unfold perpC; pointwise

theorem bgR_at (x : FVec Ideal S16384x512 .f32) (r : Fin 16384) :
    bgR x (ix1 r) = Ideal.cmp .olt (∑ k : Fin 512, (FloatOps.absf (x (ix2 r k) : Ideal .f32) : EReal)) (Ideal.ofBits .f32 0x358637BD#32) := by
  unfold bgR; pointwise

theorem fgR_at (j : Fin 1024) : fgR (ix1 j) = IntOp.cmpi .sge (BitVec.ofNat 32 j.val) 16#32 := by
  unfold fgR; pointwise

theorem or_at (b : IVec S16384 1) :
    (Host.reduce IntOp.ori b (constantI S_ 1 0#1) reducesTo_S16384_S_d0 h_S_ : IVec S_ 1) ix0 = Finset.univ.fold IntOp.ori 0#1 fun k : Fin 16384 => b (ix1 k) := by
  pointwise

theorem kS_at (o : IVec S_ 1) (b : IVec S16384 1) (f : IVec S1024 1) (L : FVec Ideal S16384x1024 .f32) (r : Fin 16384) (j : Fin 1024) :
    kS o b f L (ix2 r j) = Scalar.select (o ix0) (Scalar.select (IntOp.andi (~~~b (ix1 r)) (~~~f (ix1 j))) (Ideal.ofBits .f32 0xFF800000#32) (Scalar.select (IntOp.andi (b (ix1 r)) (f (ix1 j))) (Ideal.ofBits .f32 0xFF800000#32) (L (ix2 r j)))) (L (ix2 r j)) := by
  unfold kS; pointwise; try simp only [id, constant]; try rfl

theorem nS_at (u : IVec S16384x1024 32) (r : Fin 16384) (j : Fin 1024) :
    nS u (ix2 r j) = noise (u (ix2 r j)) := by
  unfold nS; pointwise; unfold noise; try rfl

theorem nC_at (u : IVec S16384x64 32) (r : Fin 16384) (j : Fin 64) :
    nC u (ix2 r j) = noise (u (ix2 r j)) := by
  unfold nC; pointwise; unfold noise; try rfl

theorem zS_at (o : IVec S_ 1) (b : IVec S16384 1) (f : IVec S1024 1) (L : FVec Ideal S16384x1024 .f32) (p q : IVec S16384x1024 32) (r : Fin 16384) (j : Fin 1024) :
    zS o b f L p q (ix2 r j) = Ideal.div (kS o b f L (ix2 r j) + nS (uS p q) (ix2 r j)) (Ideal.ofBits .f32 0x3F800000#32) := by
  rfl

theorem zC_at (L : FVec Ideal S16384x64 .f32) (p q : IVec S16384x64 32) (r : Fin 16384) (j : Fin 64) :
    zC L p q (ix2 r j) = Ideal.div (L (ix2 r j) + nC (uC p q) (ix2 r j)) (Ideal.ofBits .f32 0x3F800000#32) := by
  rfl

theorem qR_at (h : FVec Ideal S16384x1024 .f32) (g : FVec Ideal S16384x64 .f32) (w : FVec Ideal S1024x256 .f32) (v : FVec Ideal S64x256 .f32) (r : Fin 16384) (k : Fin 512) :
    qR h g w v (ix2 r k) = if hk : k.val < 256 then ∑ j : Fin 1024, h (ix2 r j) * w (ix2 j ⟨k.val, hk⟩) else ∑ j : Fin 64, g (ix2 r j) * v (ix2 j ⟨k.val - 256, by omega⟩) := by
  unfold qR; pointwise

theorem lossR_at (u : FVec Ideal S16384x512 .f32) :
    lossR u ix0 = Ideal.div (∑ r : Fin 16384, ∑ k : Fin 512, u (ix2 r k) * u (ix2 r k)) (Ideal.ofBits .f32 0x4B000000#32) + Ideal.ofBits .f32 0x3E800000#32 * Ideal.div (∑ r : Fin 16384, ∑ k : Fin 512, u (ix2 r k) * u (ix2 r k)) (Ideal.ofBits .f32 0x4B000000#32) := by
  unfold lossR; pointwise

end Cert.RefRead
-- ==== Proof.Cipher.lean ====
/- The noise's cipher, on words: what both programs compute from an entry's position. -/
module

public import proofs.«01_k».proof.Proof.Step
public import proofs.«01_k».proof.Proof.Gen.ReferenceIdeal.Run
public import Idealize.ShloMosaic.Lib.Pointwise

@[expose] public section

set_option maxRecDepth 16384

noncomputable section

namespace Cert.Cipher

open Idealize.ShloMosaic Idealize.SL.Sem

/-- The cipher's state: the second word and the sum of the two. -/
abbrev St := BitVec 32 × BitVec 32

/-- A word turned left. -/
def rot (u : ArithUnit) (l r w : BitVec 32) : BitVec 32 := IntOp.shli u w l ||| IntOp.shrui u w r

/-- One round. -/
def rnd (u : ArithUnit) (l r : BitVec 32) (p : St) : St :=
  (p.2 ^^^ rot u l r p.1, p.2 + (p.2 ^^^ rot u l r p.1))

/-- The last round of a group with the key's injection, its second word's in one piece. -/
def inj (u : ArithUnit) (l r a b : BitVec 32) (p : St) : St :=
  ((p.2 ^^^ rot u l r p.1) + b, (p.2 + a) + ((p.2 ^^^ rot u l r p.1) + b))

/-- The same with the group's number added after the key. -/
def inj2 (u : ArithUnit) (l r a b n : BitVec 32) (p : St) : St :=
  ((p.2 ^^^ rot u l r p.1) + b + n, (p.2 + a) + ((p.2 ^^^ rot u l r p.1) + b + n))

theorem inj2_eq (u : ArithUnit) (l r a b n : BitVec 32) (p : St) : inj2 u l r a b n p = inj u l r a (b + n) p := by
  unfold inj2 inj; rw [BitVec.add_assoc]

/-- The three plain rounds of a group of the first kind. -/
def odd3 (u : ArithUnit) (p : St) : St := rnd u 26 6 (rnd u 15 17 (rnd u 13 19 p))

/-- The three plain rounds of a group of the second kind. -/
def even3 (u : ArithUnit) (p : St) : St := rnd u 16 16 (rnd u 29 3 (rnd u 17 15 p))

/-- The words a pair of keys adds. -/
structure Key where
  k0 : BitVec 32
  k1 : BitVec 32
  k2 : BitVec 32

/-- The first group. -/
def g1 (u : ArithUnit) (k : Key) (p : St) : St := inj u 6 26 k.k1 (k.k2 + 1#32) (odd3 u p)
/-- The second group. -/
def g2 (u : ArithUnit) (k : Key) (p : St) : St := inj u 24 8 k.k2 (k.k0 + 2#32) (even3 u p)
/-- The third group. -/
def g3 (u : ArithUnit) (k : Key) (p : St) : St := inj u 6 26 k.k0 (k.k1 + 3#32) (odd3 u p)
/-- The fourth group. -/
def g4 (u : ArithUnit) (k : Key) (p : St) : St := inj u 24 8 k.k1 (k.k2 + 4#32) (even3 u p)
/-- The two words' exclusive or after the last group. -/
def g5 (u : ArithUnit) (k : Key) (p : St) : BitVec 32 :=
  ((odd3 u p).2 + k.k2) ^^^ (((odd3 u p).2 ^^^ rot u 6 26 (odd3 u p).1) + (k.k0 + 5#32))

/-- The cipher of a state. -/
def all (u : ArithUnit) (k : Key) (p : St) : BitVec 32 := g5 u k (g4 u k (g3 u k (g2 u k (g1 u k p))))

/-- The cipher of a position, the first key added to it. -/
def word (k : Key) (x : BitVec 32) : BitVec 32 := all .host k (x, k.k0 + x)

/-- The first noise block's keys. -/
def keyS : Key := ⟨1832780943#32, 270669613#32, 1724713080#32⟩
/-- The second noise block's keys. -/
def keyC : Key := ⟨64467757#32, 2916123636#32, 3050711811#32⟩

/-- Turning by a given number of bits is the same on either unit. -/
theorem rot_eq (l r : BitVec 32) (hl : l.toNat < 32) (hr : r.toNat < 32) (w : BitVec 32) :
    rot .vector l r w = rot .host l r w := by
  simp [rot, IntOp.shli, IntOp.shrui, hl, hr]

theorem rnd_eq (l r : BitVec 32) (hl : l.toNat < 32) (hr : r.toNat < 32) (p : St) :
    rnd .vector l r p = rnd .host l r p := by
  simp only [rnd, rot_eq l r hl hr]

theorem inj_eq (l r a b : BitVec 32) (hl : l.toNat < 32) (hr : r.toNat < 32) (p : St) :
    inj .vector l r a b p = inj .host l r a b p := by
  simp only [inj, rot_eq l r hl hr]

theorem odd3_eq (p : St) : odd3 .vector p = odd3 .host p := by
  simp only [odd3]
  rw [rnd_eq 26 6 (by decide) (by decide), rnd_eq 15 17 (by decide) (by decide), rnd_eq 13 19 (by decide) (by decide)]

theorem even3_eq (p : St) : even3 .vector p = even3 .host p := by
  simp only [even3]
  rw [rnd_eq 16 16 (by decide) (by decide), rnd_eq 29 3 (by decide) (by decide), rnd_eq 17 15 (by decide) (by decide)]

/-- The cipher is the same on either unit. -/
theorem all_eq (k : Key) (p : St) : all .vector k p = all .host k p := by
  simp only [all, g1, g2, g3, g4, g5, odd3_eq, even3_eq]
  simp only [inj_eq 6 26 _ _ (by decide) (by decide), inj_eq 24 8 _ _ (by decide) (by decide),
    rot_eq 6 26 (by decide) (by decide)]

section Reference

open Cert.ReferenceIdeal Cert.ReferenceIdeal.Gen Cert.ReferenceIdeal.Value

variable (V : Valuation τ sig (Elt Ideal))

/-- The first noise block's cipher, in the reference. -/
theorem ref_wordS (i : S16384x1024.Idx) :
    ((odd3 .host (res_main_v187 V i, res_main_v188 V i)).2 + keyS.k2)
      ^^^ (((odd3 .host (res_main_v187 V i, res_main_v188 V i)).2
        ^^^ rot .host 6 26 (odd3 .host (res_main_v187 V i, res_main_v188 V i)).1) + keyS.k0 + 5#32)
      = word keyS (res_main_v51 V i) := by
  have h1 : ((res_main_v85 V i, res_main_v86 V i) : St) = inj2 .host 6 26 keyS.k1 keyS.k2 1#32 (odd3 .host (res_main_v51 V i, res_main_v52 V i)) := rfl
  have h2 : ((res_main_v119 V i, res_main_v120 V i) : St) = inj2 .host 24 8 keyS.k2 keyS.k0 2#32 (even3 .host (res_main_v85 V i, res_main_v86 V i)) := rfl
  have h3 : ((res_main_v153 V i, res_main_v154 V i) : St) = inj2 .host 6 26 keyS.k0 keyS.k1 3#32 (odd3 .host (res_main_v119 V i, res_main_v120 V i)) := rfl
  have h4 : ((res_main_v187 V i, res_main_v188 V i) : St) = inj2 .host 24 8 keyS.k1 keyS.k2 4#32 (even3 .host (res_main_v153 V i, res_main_v154 V i)) := rfl
  have h0 : ((res_main_v51 V i, res_main_v52 V i) : St) = (res_main_v51 V i, keyS.k0 + res_main_v51 V i) :=
    congrArg (Prod.mk (α := BitVec 32) (res_main_v51 V i)) (congrArg (· + (res_main_v51 V i : BitVec 32)) (BitVec.zero_add _))
  rw [h4, h3, h2, h1, h0, BitVec.add_assoc _ keyS.k0]
  simp only [inj2_eq]
  rfl

/-- The second noise block's cipher, in the reference. -/
theorem ref_wordC (i : S16384x64.Idx) :
    ((odd3 .host (res_main_v441 V i, res_main_v442 V i)).2 + keyC.k2)
      ^^^ (((odd3 .host (res_main_v441 V i, res_main_v442 V i)).2
        ^^^ rot .host 6 26 (odd3 .host (res_main_v441 V i, res_main_v442 V i)).1) + keyC.k0 + 5#32)
      = word keyC (res_main_v305 V i) := by
  have h1 : ((res_main_v339 V i, res_main_v340 V i) : St) = inj2 .host 6 26 keyC.k1 keyC.k2 1#32 (odd3 .host (res_main_v305 V i, res_main_v306 V i)) := rfl
  have h2 : ((res_main_v373 V i, res_main_v374 V i) : St) = inj2 .host 24 8 keyC.k2 keyC.k0 2#32 (even3 .host (res_main_v339 V i, res_main_v340 V i)) := rfl
  have h3 : ((res_main_v407 V i, res_main_v408 V i) : St) = inj2 .host 6 26 keyC.k0 keyC.k1 3#32 (odd3 .host (res_main_v373 V i, res_main_v374 V i)) := rfl
  have h4 : ((res_main_v441 V i, res_main_v442 V i) : St) = inj2 .host 24 8 keyC.k1 keyC.k2 4#32 (even3 .host (res_main_v407 V i, res_main_v408 V i)) := rfl
  have h0 : ((res_main_v305 V i, res_main_v306 V i) : St) = (res_main_v305 V i, keyC.k0 + res_main_v305 V i) :=
    congrArg (Prod.mk (α := BitVec 32) (res_main_v305 V i)) (congrArg (· + (res_main_v305 V i : BitVec 32)) (BitVec.zero_add _))
  rw [h4, h3, h2, h1, h0, BitVec.add_assoc _ keyC.k0]
  simp only [inj2_eq]
  rfl

end Reference

section Kernel

open Cert.KernelIdeal Cert.KernelIdeal.Gen

/-- The last rounds, from the word the kernel enters them with. -/
def endS (p : St) : BitVec 32 :=
  ((rnd .vector 26 6 (rnd .vector 15 17 p)).2 + 1724713080#32)
    ^^^ (((rnd .vector 26 6 (rnd .vector 15 17 p)).2 ^^^ rot .vector 6 26 (rnd .vector 26 6 (rnd .vector 15 17 p)).1) + 1832780948#32)

theorem ker_wordS (a : IVec S1024x1024 32) (y : S1024x1024.Idx) :
    endS (k0_pay50 (k0_pay38 (k0_pay26 a k0_pay15) (k0_pay27 a k0_pay15)) (k0_pay39 (k0_pay26 a k0_pay15) (k0_pay27 a k0_pay15)) y,
      k0_pay51 (k0_pay38 (k0_pay26 a k0_pay15) (k0_pay27 a k0_pay15)) (k0_pay39 (k0_pay26 a k0_pay15) (k0_pay27 a k0_pay15)) y)
      = word keyS (a y) := by
  have h1 : ∀ b : IVec S1024x1024 32, ((k0_pay23 a b y, k0_pay24 a b y) : St) = g1 .vector keyS (a y, a y + b y) := fun b => rfl
  have h2 : ∀ b : IVec S1024x1024 32, ((k0_pay27 a b y, k0_pay26 a b y + k0_pay27 a b y) : St)
      = rnd .vector 29 3 (rnd .vector 17 15 (k0_pay23 a b y, k0_pay24 a b y)) := fun b => rfl
  have h3 : ∀ v w : IVec S1024x1024 32, ((k0_pay37 v w y, k0_pay38 v w y) : St)
      = odd3 .vector (inj .vector 24 8 keyS.k2 (keyS.k0 + 2#32) (rnd .vector 16 16 (w y, v y + w y))) := fun v w => rfl
  have h3' : ∀ v w : IVec S1024x1024 32, k0_pay39 v w y = k0_pay38 v w y ^^^ rot .vector 6 26 (k0_pay37 v w y) := fun v w => rfl
  have h4 : ∀ v w : IVec S1024x1024 32, ((k0_pay50 v w y, k0_pay51 v w y) : St)
      = rnd .vector 13 19 (g4 .vector keyS (w y + (keyS.k1 + 3#32), (v y + keyS.k0) + (w y + (keyS.k1 + 3#32)))) := fun v w => rfl
  have hp : ∀ v w : IVec S1024x1024 32, (k0_pay37 v w y) = ((k0_pay37 v w y, k0_pay38 v w y) : St).1 := fun _ _ => rfl
  have hq : ∀ v w : IVec S1024x1024 32, (k0_pay38 v w y) = ((k0_pay37 v w y, k0_pay38 v w y) : St).2 := fun _ _ => rfl
  rw [h4, h3', hp, hq, h3, h2, h1]
  rw [word, ← all_eq, show a y + k0_pay15 y = keyS.k0 + a y from BitVec.add_comm _ _]
  rfl

/-- The second block's last rounds, from the word the kernel enters them with. -/
def endC (p : St) : BitVec 32 :=
  ((rnd .vector 26 6 p).2 + 3050711811#32) ^^^ (((rnd .vector 26 6 p).2 ^^^ rot .vector 6 26 (rnd .vector 26 6 p).1) + 64467762#32)

variable {F : FTy → Type}

/-- The second noise block's cipher, in the kernel. -/
theorem ker_wordC (n : BitVec 32) (v : Vec F S1024x64 .i32) (t s u a b : IVec S1024x64 32)
    (ht : t = k0_pay74 (k0_pay60 (F := F) n v) (k0_pay61 (F := F) n v) (k0_pay62 (F := F) n v) k0_pay63) (hs : s = k0_pay75 (k0_pay60 (F := F) n v) (k0_pay61 (F := F) n v) (k0_pay62 (F := F) n v) k0_pay63)
    (hu : u = k0_pay76 (k0_pay60 (F := F) n v) (k0_pay61 (F := F) n v) (k0_pay62 (F := F) n v) k0_pay63)
    (ha : a = k0_pay88 t s u k0_pay77) (hb : b = k0_pay89 t s u k0_pay77) (y : S1024x64.Idx) :
    endC (k0_pay101 a b y, k0_pay100 a b y + k0_pay101 a b y) = word keyC (k0_pay60 (F := F) n v y) := by
  have h1 : ((t y, s y) : St) = rnd .vector 29 3 (rnd .vector 17 15 (g1 .vector keyC (k0_pay60 (F := F) n v y, k0_pay60 (F := F) n v y + keyC.k0))) := by
    rw [ht, hs]; rfl
  have hu' : u y = IntOp.shli .vector (t y) 16#32 := by rw [hu, ht]; rfl
  have h2 : ((s y ^^^ (u y ||| IntOp.shrui .vector (t y) 16#32), s y + (s y ^^^ (u y ||| IntOp.shrui .vector (t y) 16#32))) : St)
      = rnd .vector 16 16 (t y, s y) := by rw [hu']; rfl
  have h3 : ∀ t s u : IVec S1024x64 32, ((k0_pay89 t s u k0_pay77 y, k0_pay88 t s u k0_pay77 y + k0_pay89 t s u k0_pay77 y) : St)
      = g3 .vector keyC (inj .vector 24 8 keyC.k2 (keyC.k0 + 2#32) (s y ^^^ (u y ||| IntOp.shrui .vector (t y) 16#32), s y + (s y ^^^ (u y ||| IntOp.shrui .vector (t y) 16#32)))) :=
    fun _ _ _ => rfl
  have h4 : ∀ a b : IVec S1024x64 32, ((k0_pay101 a b y, k0_pay100 a b y + k0_pay101 a b y) : St)
      = rnd .vector 15 17 (rnd .vector 13 19 (g4 .vector keyC (b y, a y + b y))) := fun _ _ => rfl
  rw [h4, ha, hb, h3, h2, h1]
  rw [word, ← all_eq, show (k0_pay60 (F := F) n v y : BitVec 32) + keyC.k0 = keyC.k0 + k0_pay60 (F := F) n v y from BitVec.add_comm _ _]
  rfl

end Kernel

end Cert.Cipher

end
-- ==== Proof.KerRead.lean ====
/- What the kernel computes of a block of rows, at an index. -/
module

public import proofs.«01_k».proof.Proof.Step
public import proofs.«01_k».proof.Proof.Cipher
public import Idealize.ShloMosaic.Lib.Pointwise
public import Idealize.ShloMosaic.Lib.Tactic.CleanTypes
public import Idealize.ShloMosaic.Lib.Routing.OpsOrder

@[expose] public section

set_option maxRecDepth 16384

noncomputable section

namespace Cert.KerRead

open Idealize.ShloMosaic Idealize.SL.Sem
open Cert.KernelIdeal Cert.KernelIdeal.Gen

theorem shr9 (w : BitVec 32) : IntOp.shrui .vector w 9#32 = w >>> 9 := by
  simp [IntOp.shrui]

/-- The noise a word stands for. -/
def noise (w : BitVec 32) : EReal :=
  (0 : EReal) - Ideal.log ((0 : EReal) - Ideal.log ((Ideal.ofBits .f32 (w >>> 9 ||| 1065353216#32) : EReal) - (1 : EReal) + (Ideal.ofBits .f32 0x1E3CE508#32 : EReal)))

/-- The noise of a block of words. -/
def nS (u : IVec S1024x1024 32) : FVec Ideal S1024x1024 .f32 :=
  subf (broadcast S1024x1024 (Scalar.ofBits .f32 0x00000000#32)) (log (subf (broadcast S1024x1024 (Scalar.ofBits .f32 0x00000000#32)) (log (addf (subf (bitcastToFloat .f32 (ori (shrui u (broadcast S1024x1024 9#32)) (broadcast S1024x1024 1065353216#32))) (broadcast S1024x1024 (Scalar.ofBits .f32 0x3F800000#32))) (broadcast S1024x1024 (Scalar.ofBits .f32 0x1E3CE508#32))))))

/-- The greatest of each row. -/
def mS (s : FVec Ideal S1024x1024 .f32) : FVec Ideal S1024 .f32 :=
  multiReduction .maximumf [1] S1024 s 0xFF800000#32 reduces_S1024x1024_S1024 (.inl rfl) rfl

/-- Where a row's scores are its greatest. -/
def hS (s : FVec Ideal S1024x1024 .f32) (M : FVec Ideal S1024 .f32) : IVec S1024x1024 1 :=
  cmpf .oeq s (broadcastTo S1024x1024 (shapeCast S1024x1 M shapeCasts_S1024_S1024x1) broadcasts_S1024x1_S1024x1024)

/-- The numbers of the best codes, the others' being one past the last. -/
def sS (h : IVec S1024x1024 1) : IVec S1024x1024 32 :=
  select h (iota .tc S1024x1024 32 [1] iota_S1024x1024_d1_w32) (broadcast S1024x1024 1024#32)

/-- The least number of each row. -/
def iS (s : IVec S1024x1024 32) : IVec S1024 32 :=
  multiReductionI .minsi [1] S1024 s 2147483647#32 reduces_S1024x1024_S1024 rfl

/-- The noise of a block of words. -/
def nC (u : IVec S1024x64 32) : FVec Ideal S1024x64 .f32 :=
  subf (broadcast S1024x64 (Scalar.ofBits .f32 0x00000000#32)) (log (subf (broadcast S1024x64 (Scalar.ofBits .f32 0x00000000#32)) (log (addf (subf (bitcastToFloat .f32 (ori (shrui u (broadcast S1024x64 9#32)) (broadcast S1024x64 1065353216#32))) (broadcast S1024x64 (Scalar.ofBits .f32 0x3F800000#32))) (broadcast S1024x64 (Scalar.ofBits .f32 0x1E3CE508#32))))))

/-- The greatest of each row. -/
def mC (s : FVec Ideal S1024x64 .f32) : FVec Ideal S1024 .f32 :=
  multiReduction .maximumf [1] S1024 s 0xFF800000#32 reduces_S1024x64_S1024 (.inl rfl) rfl

/-- Where a row's scores are its greatest. -/
def hC (s : FVec Ideal S1024x64 .f32) (M : FVec Ideal S1024 .f32) : IVec S1024x64 1 :=
  cmpf .oeq s (broadcastTo S1024x64 (shapeCast S1024x1 M shapeCasts_S1024_S1024x1) broadcasts_S1024x1_S1024x64)

/-- The numbers of the best codes, the others' being one past the last. -/
def sC (h : IVec S1024x64 1) : IVec S1024x64 32 :=
  select h (iota .tc S1024x64 32 [1] iota_S1024x64_d1_w32) (broadcast S1024x64 64#32)

/-- The least number of each row. -/
def iC (s : IVec S1024x64 32) : IVec S1024 32 :=
  multiReductionI .minsi [1] S1024 s 2147483647#32 reduces_S1024x64_S1024 rfl

/-- The words the first block's noise is made of. -/
def uS (a b c : IVec S1024x1024 32) : IVec S1024x1024 32 :=
  have v178 := xori b (ori (shli a c) (shrui a (broadcast S1024x1024 17#32)))
  have v179 := addi b v178
  have v185 := xori v179 (ori (shli v178 (broadcast S1024x1024 26#32)) (shrui v178 (broadcast S1024x1024 6#32)))
  have v186 := addi v179 v185
  have v192 := xori v186 (ori (shli v185 (broadcast S1024x1024 6#32)) (shrui v185 (broadcast S1024x1024 26#32)))
  xori (addi v186 (broadcast S1024x1024 1724713080#32)) (addi v192 (broadcast S1024x1024 1832780948#32))

/-- The words the second block's noise is made of. -/
def uC (a b : IVec S1024x64 32) : IVec S1024x64 32 :=
  have v398 := addi a b
  have v404 := xori v398 (ori (shli b (broadcast S1024x64 26#32)) (shrui b (broadcast S1024x64 6#32)))
  have v405 := addi v398 v404
  have v411 := xori v405 (ori (shli v404 (broadcast S1024x64 6#32)) (shrui v404 (broadcast S1024x64 26#32)))
  xori (addi v405 (broadcast S1024x64 3050711811#32)) (addi v411 (broadcast S1024x64 64467762#32))

/-- One-hot rows. -/
def oS (x : IVec S1024 32) : FVec Ideal S1024x1024 .f32 :=
  select (cmpi .eq (iota .tc S1024x1024 32 [1] iota_S1024x1024_d1_w32) (broadcastTo S1024x1024 (shapeCast S1024x1 x shapeCasts_S1024_S1024x1) broadcasts_S1024x1_S1024x1024))
    (broadcast S1024x1024 (Scalar.ofBits .f32 0x3F800000#32)) (broadcast S1024x1024 (Scalar.ofBits .f32 0x00000000#32))

/-- Counts, added to. -/
def cS (m : FVec Ideal S1024 .f32) (o : FVec Ideal S1024x1024 .f32) (c : FVec Ideal S1024 .f32) : FVec Ideal S1024 .f32 :=
  addf (shapeCast S1024 c shapeCasts_S1024_S1024) (shapeCast S1024 (matmul dot_S1x1024_S1024x1024_S1x1024_1_0_0_1_n_n none (shapeCast S1x1024 m shapeCasts_S1024_S1x1024) o (constant S1x1024 .f32 0x00000000#32)) shapeCasts_S1x1024_S1024)

/-- One-hot rows' codes. -/
def gS (o : FVec Ideal S1024x1024 .f32) (w : FVec Ideal S1024x256 .f32) : FVec Ideal S1024x256 .f32 :=
  matmul dot_S1024x1024_S1024x256_S1024x256_1_0_0_1_n_n none o w (constant S1024x256 .f32 0x00000000#32)

/-- One-hot rows over the padded columns. -/
def oP (x : IVec S1024 32) : FVec Ideal S1024x128 .f32 :=
  select (cmpi .eq (iota .tc S1024x128 32 [1] iota_S1024x128_d1_w32) (broadcastTo S1024x128 (shapeCast S1024x1 x shapeCasts_S1024_S1024x1) broadcasts_S1024x1_S1024x128))
    (broadcast S1024x128 (Scalar.ofBits .f32 0x3F800000#32)) (broadcast S1024x128 (Scalar.ofBits .f32 0x00000000#32))

/-- The second table's counts, added to. -/
def cP (m : FVec Ideal S1024 .f32) (o : FVec Ideal S1024x128 .f32) (c : FVec Ideal S128 .f32) : FVec Ideal S128 .f32 :=
  addf (shapeCast S128 c shapeCasts_S128_S128) (shapeCast S128 (matmul dot_S1x1024_S1024x128_S1x128_1_0_0_1_n_n none (shapeCast S1x1024 m shapeCasts_S1024_S1x1024) o (constant S1x128 .f32 0x00000000#32)) shapeCasts_S1x128_S128)

/-- The second table's one-hot rows' codes. -/
def gP (o : FVec Ideal S1024x128 .f32) (w : FVec Ideal S64x256 .f32) : FVec Ideal S1024x256 .f32 :=
  matmul dot_S1024x64_S64x256_S1024x256_1_0_0_1_n_n none (extractStridedSlice S1024x64 ![0, 0] o slices_S1024x128_o0_0_S1024x64) w (constant S1024x256 .f32 0x00000000#32)

/-- The sum of the squares of a block. -/
def tot (a : FVec Ideal S1024x256 .f32) : EReal :=
  extractAt ![0, 0, 0] (shapeCast S1x1x1 (multiReduction .add [1, 2] S1 (shapeCast S1x1024x256 (mulf a a) shapeCasts_S1024x256_S1x1024x256) 0x00000000#32 reduces_S1x1024x256_S1 (.inl rfl) rfl) shapeCasts_S1_S1x1x1) inpos_S1x1x1_p0_0_0

theorem pay53_eq (d : FVec Ideal S1024x1024 .f32) (a b c : IVec S1024x1024 32) :
    k0_pay53 d a b c = hS (subf (nS (uS a b c)) d) (mS (subf (nS (uS a b c)) d)) := rfl

theorem pay55_eq (h : IVec S1024x1024 1) : k0_pay55 Step.colS h k0_pay54 = iS (sS h) := rfl

theorem pay57_eq (m : FVec Ideal S1024 .f32) (h : IVec S1024x1024 1) (c : FVec Ideal S1024 .f32) :
    k0_pay57 (F := Ideal) m Step.colS h k0_pay54 c = cS m (oS (iS (sS h))) c := rfl

theorem pay58_eq (w : FVec Ideal S1024x256 .f32) (h : IVec S1024x1024 1) :
    k0_pay58 (F := Ideal) w Step.colS h k0_pay54 = gS (oS (iS (sS h))) w := rfl

theorem pay102_eq (d : FVec Ideal S1024x64 .f32) (a b : IVec S1024x64 32) :
    k0_pay102 d Step.colC a b = iC (sC (hC (subf (nC (uC a b)) d) (mC (subf (nC (uC a b)) d)))) := rfl

theorem pay105_eq (m : FVec Ideal S1024 .f32) (d : FVec Ideal S1024x64 .f32) (a b : IVec S1024x64 32) (c : FVec Ideal S128 .f32) :
    k0_pay105 m Step.colP (k0_pay103 d Step.colC a b) c = cP m (oP (k0_pay102 d Step.colC a b)) c := rfl

theorem pay106_eq (w : FVec Ideal S64x256 .f32) (d : FVec Ideal S1024x64 .f32) (a b : IVec S1024x64 32) :
    k0_pay106 w Step.colP (k0_pay103 d Step.colC a b) = gP (oP (k0_pay102 d Step.colC a b)) w := rfl

theorem pay107_eq (x y : FVec Ideal S1024x256 .f32) (w : FVec Ideal S64x256 .f32) (p : FVec Ideal S1024x256 .f32) (d : FVec Ideal S1024x64 .f32) (a b : IVec S1024x64 32) (v : EReal) :
    k0_pay107 (F := Ideal) x y w p Step.colP (k0_pay103 d Step.colC a b) v
      = v + (tot (subf p x) + tot (subf (gP (oP (k0_pay102 d Step.colC a b)) w) y)) := rfl

theorem uS_at (a b : IVec S1024x1024 32) (y : S1024x1024.Idx) : uS a b k0_pay52 y = Cipher.endS (a y, b y) := rfl

theorem uC_at (a b : IVec S1024x64 32) (y : S1024x64.Idx) : uC a b y = Cipher.endC (b y, a y + b y) := rfl

end Cert.KerRead
-- ==== Proof.KerAt.lean ====
/- What the kernel computes of a block of rows, at an index. -/
module

public import proofs.«01_k».proof.Proof.Step
public import proofs.«01_k».proof.Proof.Cipher
public import proofs.«01_k».proof.Proof.KerRead
public import Idealize.ShloMosaic.Lib.Pointwise
public import Idealize.ShloMosaic.Lib.Tactic.CleanTypes
public import Idealize.ShloMosaic.Lib.Routing.OpsOrder

@[expose] public section

set_option maxRecDepth 16384

noncomputable section

namespace Cert.KerRead

open Idealize.ShloMosaic Idealize.SL.Sem
open Cert.KernelIdeal Cert.KernelIdeal.Gen

theorem nS_at (u : IVec S1024x1024 32) (r : Fin 1024) (j : Fin 1024) :
    nS u (ix2 r j) = noise (u (ix2 r j)) := by
  unfold nS; pointwise; rw [shr9]; rfl

theorem mS_at (s : FVec Ideal S1024x1024 .f32) (r : Fin 1024) :
    mS s (ix1 r) = Finset.univ.fold max (Ideal.ofBits .f32 0xFF800000#32) fun k : Fin 1024 => s (ix2 r k) := by
  unfold mS; pointwise

theorem hS_at (s : FVec Ideal S1024x1024 .f32) (M : FVec Ideal S1024 .f32) (r : Fin 1024) (j : Fin 1024) :
    hS s M (ix2 r j) = Ideal.cmp .oeq (s (ix2 r j)) (M (ix1 r)) := by
  unfold hS; pointwise

theorem sS_at (h : IVec S1024x1024 1) (r : Fin 1024) (j : Fin 1024) :
    sS h (ix2 r j) = Scalar.select (h (ix2 r j)) (BitVec.ofNat 32 j.val) 1024#32 := by
  unfold sS; pointwise

theorem iS_at (s : IVec S1024x1024 32) (r : Fin 1024) :
    iS s (ix1 r) = Finset.univ.fold IntOp.minsi 2147483647#32 fun k : Fin 1024 => s (ix2 r k) := by
  unfold iS; pointwise

theorem nC_at (u : IVec S1024x64 32) (r : Fin 1024) (j : Fin 64) :
    nC u (ix2 r j) = noise (u (ix2 r j)) := by
  unfold nC; pointwise; rw [shr9]; rfl

theorem mC_at (s : FVec Ideal S1024x64 .f32) (r : Fin 1024) :
    mC s (ix1 r) = Finset.univ.fold max (Ideal.ofBits .f32 0xFF800000#32) fun k : Fin 64 => s (ix2 r k) := by
  unfold mC; pointwise

theorem hC_at (s : FVec Ideal S1024x64 .f32) (M : FVec Ideal S1024 .f32) (r : Fin 1024) (j : Fin 64) :
    hC s M (ix2 r j) = Ideal.cmp .oeq (s (ix2 r j)) (M (ix1 r)) := by
  unfold hC; pointwise

theorem sC_at (h : IVec S1024x64 1) (r : Fin 1024) (j : Fin 64) :
    sC h (ix2 r j) = Scalar.select (h (ix2 r j)) (BitVec.ofNat 32 j.val) 64#32 := by
  unfold sC; pointwise

theorem iC_at (s : IVec S1024x64 32) (r : Fin 1024) :
    iC s (ix1 r) = Finset.univ.fold IntOp.minsi 2147483647#32 fun k : Fin 64 => s (ix2 r k) := by
  unfold iC; pointwise

theorem oS_at (x : IVec S1024 32) (r : Fin 1024) (j : Fin 1024) :
    oS x (ix2 r j) = Scalar.select (IntOp.cmpi .eq (BitVec.ofNat 32 j.val) (x (ix1 r))) 1 0 := by
  unfold oS; pointwise

theorem oP_at (x : IVec S1024 32) (r : Fin 1024) (j : Fin 128) :
    oP x (ix2 r j) = Scalar.select (IntOp.cmpi .eq (BitVec.ofNat 32 j.val) (x (ix1 r))) 1 0 := by
  unfold oP; pointwise

theorem cS_at (m : FVec Ideal S1024 .f32) (o : FVec Ideal S1024x1024 .f32) (c : FVec Ideal S1024 .f32) (j : Fin 1024) :
    cS m o c (ix1 j) = c (ix1 j) + ∑ r : Fin 1024, m (ix1 r) * o (ix2 r j) := by
  unfold cS; pointwise

theorem cP_at (m : FVec Ideal S1024 .f32) (o : FVec Ideal S1024x128 .f32) (c : FVec Ideal S128 .f32) (j : Fin 128) :
    cP m o c (ix1 j) = c (ix1 j) + ∑ r : Fin 1024, m (ix1 r) * o (ix2 r j) := by
  unfold cP; pointwise

theorem gS_at (o : FVec Ideal S1024x1024 .f32) (w : FVec Ideal S1024x256 .f32) (r : Fin 1024) (k : Fin 256) :
    gS o w (ix2 r k) = ∑ j : Fin 1024, o (ix2 r j) * w (ix2 j k) := by
  unfold gS; pointwise

theorem gP_at (o : FVec Ideal S1024x128 .f32) (w : FVec Ideal S64x256 .f32) (r : Fin 1024) (k : Fin 256) :
    gP o w (ix2 r k) = ∑ j : Fin 64, o (ix2 r ⟨j.val, by omega⟩) * w (ix2 j k) := by
  unfold gP; pointwise

theorem tot_at (a : FVec Ideal S1024x256 .f32) :
    tot a = ∑ r : Fin 1024, ∑ k : Fin 256, a (ix2 r k) * a (ix2 r k) := by
  unfold tot; pointwise

theorem pay3_at (v : EReal) (c : FVec Ideal S1024 .f32) :
    k0_pay3 (F := Ideal) v c = Ideal.exp ((0 : EReal) - ∑ j : Fin 1024, Ideal.div (c (ix1 j)) (max v 1) * Ideal.log (Ideal.div (c (ix1 j)) (max v 1) + Ideal.ofBits .f32 0x2EDBE6FF#32)) := by
  unfold k0_pay3 k0_pay2; pointwise; rfl

theorem pay4_at (v : EReal) (c : FVec Ideal S128 .f32) :
    k0_pay4 (F := Ideal) v c = Ideal.exp ((0 : EReal) - ∑ j : Fin 128, Ideal.div (c (ix1 j)) (max v 1) * Ideal.log (Ideal.div (c (ix1 j)) (max v 1) + Ideal.ofBits .f32 0x2EDBE6FF#32)) := by
  unfold k0_pay4 k0_pay2; pointwise; rfl

theorem valid_at (m : FVec Ideal S1024 .f32) (v : EReal) :
    k0_pay1 (F := Ideal) v (k0_pay108 (k0_pay11 m)) = v + ∑ r : Fin 1024, m (ix1 r) := by
  unfold k0_pay1 k0_pay108 k0_pay11; pointwise

theorem pay14_at (i : grid0.Coords) (p : IVec S1024x1024 32) (r j : Fin 1024) :
    k0_pay14 (F := Ideal) i p (ix2 r j) = p (ix2 r j) + (270669613#32 + BitVec.ofNat 32 (i 0).val * 1048576#32) := by
  unfold k0_pay14; pointwise; try rfl

theorem pay60_at (n : BitVec 32) (p : IVec S1024x64 32) (r : Fin 1024) (j : Fin 64) :
    k0_pay60 (F := Ideal) n p (ix2 r j) = p (ix2 r j) + (2916123636#32 + n * 65536#32) := by
  unfold k0_pay60; pointwise; try rfl

theorem pay9_at (x : FVec Ideal S1024x512 .f32) (r : Fin 1024) (k : Fin 256) :
    k0_pay9 x (ix2 r k) = x (ix2 r ⟨k.val, by omega⟩) := by
  unfold k0_pay9 k0_pay8; pointwise

theorem pay10_at (x : FVec Ideal S1024x512 .f32) (r : Fin 1024) (k : Fin 256) :
    k0_pay10 x (ix2 r k) = x (ix2 r ⟨256 + k.val, by omega⟩) := by
  unfold k0_pay10 k0_pay8; pointwise

theorem pay11_at (m : FVec Ideal S1024 .f32) (r : Fin 1024) : k0_pay11 m (ix1 r) = m (ix1 r) := by
  unfold k0_pay11; pointwise

theorem pay12_at (x : FVec Ideal S1024x512 .f32) (w : FVec Ideal S1024x256 .f32) (a b : FVec Ideal S1024 .f32) (r j : Fin 1024) :
    k0_pay12 x w a b (ix2 r j) = a (ix1 r) + b (ix1 j) - Ideal.ofBits .f32 0x40000000#32 * ∑ k : Fin 256, k0_pay9 x (ix2 r k) * w (ix2 j k) := by
  unfold k0_pay12; pointwise

theorem pay13_at (x : FVec Ideal S1024x512 .f32) (w : FVec Ideal S1024x256 .f32) (a b g : FVec Ideal S1024 .f32) (r j : Fin 1024) :
    k0_pay13 x w a b g (ix2 r j) = Scalar.select (IntOp.xori (IntOp.cmpi .sge (BitVec.ofNat 32 j.val) 16#32) (Ideal.cmp .ogt (g (ix1 r)) (Ideal.ofBits .f32 0x3F000000#32)))
      (k0_pay12 x w a b (ix2 r j)) (Ideal.ofBits .f32 0x7F800000#32) := by
  unfold k0_pay13; pointwise; try rfl

theorem pay59_at (x : FVec Ideal S1024x256 .f32) (w : FVec Ideal S64x256 .f32) (a : FVec Ideal S1024 .f32) (b : FVec Ideal S64 .f32) (r : Fin 1024) (j : Fin 64) :
    k0_pay59 x w a b (ix2 r j) = a (ix1 r) + b (ix1 j) - Ideal.ofBits .f32 0x40000000#32 * ∑ k : Fin 256, x (ix2 r k) * w (ix2 j k) := by
  unfold k0_pay59; pointwise

end Cert.KerRead
-- ==== Proof.Math.lean ====
/- Facts of the extended reals the two programs' equality rests on: which values are real, the greatest of a row
   before and after a softmax, one-hot rows, and the noise. -/
module

public import proofs.«01_k».proof.Proof.RefAt
public import proofs.«01_k».proof.Proof.KerAt
public import Idealize.ShloMosaic.Lib.Pointwise
public import Idealize.ShloMosaic.Lib.Routing.OpsOrder

@[expose] public section

set_option maxRecDepth 16384

noncomputable section

namespace Cert.Math

open Idealize.ShloMosaic Idealize.SL.Sem

/-- The value is a real number. -/
def IsR (a : EReal) : Prop := ∃ r : ℝ, a = (r : EReal)

theorem IsR.add {a b : EReal} (ha : IsR a) (hb : IsR b) : IsR (a + b) := by
  obtain ⟨x, rfl⟩ := ha; obtain ⟨y, rfl⟩ := hb; exact ⟨x + y, (EReal.coe_add x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.neg {a : EReal} (ha : IsR a) : IsR (-a) := by
  obtain ⟨x, rfl⟩ := ha; exact ⟨-x, (EReal.coe_neg x).symm⟩
theorem isR_zero : IsR 0 := ⟨0, rfl⟩
theorem isR_one : IsR 1 := ⟨1, rfl⟩
theorem IsR.sum {ι : Type} (s : Finset ι) (f : ι → EReal) (h : ∀ i ∈ s, IsR (f i)) : IsR (∑ i ∈ s, f i) :=
  Finset.sum_induction f IsR (fun _ _ => IsR.add) isR_zero h
theorem IsR.ne_bot {a : EReal} (h : IsR a) : a ≠ ⊥ := by obtain ⟨x, rfl⟩ := h; exact EReal.coe_ne_bot x
theorem IsR.ne_top {a : EReal} (h : IsR a) : a ≠ ⊤ := by obtain ⟨x, rfl⟩ := h; exact EReal.coe_ne_top x

/-- A sum of real numbers, in the reals. -/
theorem sum_coe {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-- Adding back what was taken away. -/
theorem sub_add_back {a b : EReal} (ha : IsR a) (hb : IsR b) : a - b + b = a := by
  obtain ⟨x, rfl⟩ := ha; obtain ⟨y, rfl⟩ := hb
  rw [← EReal.coe_sub, ← EReal.coe_add]; congr 1; ring

/-- Adding the difference to what was taken away. -/
theorem add_sub_back {a b : EReal} (ha : IsR a) (hb : IsR b) : b + (a - b) = a := by
  rw [add_comm]; exact sub_add_back ha hb

/-- The bits of minus infinity. -/
theorem ninf : (Ideal.ofBits .f32 0xFF800000#32 : EReal) = ⊥ := by simp [Ideal.ofBits, Ideal.ieee]
/-- The bits of plus infinity. -/
theorem pinf : (Ideal.ofBits .f32 0x7F800000#32 : EReal) = ⊤ := by simp [Ideal.ofBits, Ideal.ieee]
/-- The bits of one. -/
theorem one_bits : (Ideal.ofBits .f32 0x3F800000#32 : EReal) = 1 := by
  simp [Ideal.ofBits, Ideal.ieee, -EReal.coe_mul]
  norm_num
/-- The bits of zero. -/
theorem zero_bits : (Ideal.ofBits .f32 0x00000000#32 : EReal) = 0 := by
  simp [Ideal.ofBits, Ideal.ieee]
/-- A number over one. -/
theorem div_one (x : EReal) : Ideal.div x (1 : EReal) = x := by
  have h := Ideal.div_coe (y := 1) one_ne_zero x
  simpa using h

/-- The greatest value of a row. -/
def top {n : ℕ} (z : Fin n → EReal) : EReal := Finset.univ.fold max (Ideal.ofBits .f32 0xFF800000#32) z

/-- A value is its row's greatest exactly if no other exceeds it. -/
theorem eq_top_iff {n : ℕ} (z : Fin n → EReal) (j : Fin n) : z j = top z ↔ ∀ i, z i ≤ z j := by
  have hle : ∀ c, top z ≤ c ↔ ∀ i, z i ≤ c := fun c => by
    unfold top; rw [ninf, Finset.fold_max_le]; simp
  constructor
  · intro h i
    exact h ▸ (hle (top z)).mp le_rfl i
  · intro h
    exact le_antisymm ((hle (top z)).mp le_rfl j) ((hle _).mpr h)

/-- Where a row is its greatest. -/
def hit {n : ℕ} (z : Fin n → EReal) (j : Fin n) : BitVec 1 := Ideal.cmp .oeq (z j) (top z)

/-- Two rows in the same order are greatest at the same places. -/
theorem hit_congr {n : ℕ} {y z : Fin n → EReal} (h : ∀ i j, y i ≤ y j ↔ z i ≤ z j) : hit y = hit z := by
  funext j
  show BitVec.ofBool (decide (y j = top y)) = BitVec.ofBool (decide (z j = top z))
  have : (y j = top y) ↔ (z j = top z) := by
    rw [eq_top_iff, eq_top_iff]; exact forall_congr' fun i => h i j
  simp only [this]

/-- The softmax of a row. -/
def soft {n : ℕ} (z : Fin n → EReal) (j : Fin n) : EReal :=
  Ideal.div (Ideal.exp (z j - max (Ideal.ofBits .f32 0xFF800000#32) (top z)))
    (∑ k : Fin n, Ideal.exp (z k - max (Ideal.ofBits .f32 0xFF800000#32) (top z)))

/-- The softmax of a row of values none of which is plus infinity and one of which is real is a row of
    reals in the same order. -/
theorem soft_spec {n : ℕ} (z : Fin n → EReal) (ht : ∀ j, z j ≠ ⊤) (hb : ∃ j, z j ≠ ⊥) :
    (∀ j, IsR (soft z j)) ∧ ∀ i j, soft z i ≤ soft z j ↔ z i ≤ z j := by
  obtain ⟨j0, h0⟩ := hb
  obtain ⟨jm, -, hm⟩ := Finset.exists_max_image Finset.univ z ⟨j0, Finset.mem_univ _⟩
  have hM : z jm = top z := (eq_top_iff z jm).mpr fun i => hm i (Finset.mem_univ _)
  have hmb : z jm ≠ ⊥ := fun h => h0 (le_bot_iff.mp (h ▸ hm j0 (Finset.mem_univ _)))
  obtain ⟨a, ha⟩ : ∃ a : ℝ, (a : EReal) = z jm := ⟨(z jm).toReal, EReal.coe_toReal (ht jm) hmb⟩
  let w : Fin n → ℝ := fun j => if z j = ⊥ then 0 else Real.exp ((z j).toReal - a)
  have hw0 : ∀ j, 0 ≤ w j := fun j => by
    show 0 ≤ (if z j = ⊥ then 0 else Real.exp ((z j).toReal - a))
    split
    · exact le_rfl
    · exact (Real.exp_pos _).le
  have hexp : ∀ j, Ideal.exp (z j - max (Ideal.ofBits .f32 0xFF800000#32) (top z)) = (w j : EReal) := fun j => by
    rw [ninf, ← hM, ← ha, max_eq_right bot_le]
    by_cases h : z j = ⊥
    · rw [h, show w j = 0 from if_pos h]; rfl
    · rw [show w j = Real.exp ((z j).toReal - a) from if_neg h]
      conv_lhs => rw [← EReal.coe_toReal (ht j) h, ← EReal.coe_sub]
      exact Ideal.exp_coe _
  have hsum : (∑ k : Fin n, Ideal.exp (z k - max (Ideal.ofBits .f32 0xFF800000#32) (top z))) = ((∑ k, w k : ℝ) : EReal) := by
    rw [← sum_coe]; exact Finset.sum_congr rfl fun k _ => hexp k
  have hpos : 0 < ∑ k, w k := by
    refine Finset.sum_pos' (fun k _ => hw0 k) ⟨jm, Finset.mem_univ _, ?_⟩
    rw [show w jm = Real.exp ((z jm).toReal - a) from if_neg hmb]; exact Real.exp_pos _
  have hs : ∀ j, soft z j = ((w j * (1 / ∑ k, w k) : ℝ) : EReal) := fun j => by
    unfold soft
    rw [hexp, hsum, Ideal.div_coe hpos.ne', EReal.coe_mul]
  refine ⟨fun j => ⟨_, hs j⟩, fun i j => ?_⟩
  rw [hs, hs, EReal.coe_le_coe_iff, mul_le_mul_iff_left₀ (by positivity : (0 : ℝ) < 1 / ∑ k, w k)]
  by_cases hi : z i = ⊥
  · rw [show w i = 0 from if_pos hi, hi]
    exact ⟨fun _ => bot_le, fun _ => hw0 j⟩
  · by_cases hj : z j = ⊥
    · rw [show w j = 0 from if_pos hj, show w i = Real.exp ((z i).toReal - a) from if_neg hi, hj]
      exact ⟨fun h => absurd h (not_le.mpr (Real.exp_pos _)), fun h => absurd (le_bot_iff.mp h) hi⟩
    · rw [show w i = Real.exp ((z i).toReal - a) from if_neg hi, show w j = Real.exp ((z j).toReal - a) from if_neg hj, Real.exp_le_exp]
      conv_rhs => rw [← EReal.coe_toReal (ht i) hi, ← EReal.coe_toReal (ht j) hj, EReal.coe_le_coe_iff]
      constructor <;> intro h <;> linarith

/-- The number of a row's first greatest place. -/
def arg {n : ℕ} (z : Fin n → EReal) : BitVec 32 :=
  Finset.univ.fold IntOp.minsi 2147483647#32 fun k : Fin n => Scalar.select (hit z k) (BitVec.ofNat 32 k.val) (BitVec.ofNat 32 n)

/-- One at the place numbered `i`, zero elsewhere. -/
def one (i : BitVec 32) (j : ℕ) : EReal := Scalar.select (IntOp.cmpi .eq (BitVec.ofNat 32 j) i) (1 : EReal) (0 : EReal)

theorem isR_one_at (i : BitVec 32) (j : ℕ) : IsR (one i j) := by
  unfold one Scalar.select; split <;> first | exact isR_one | exact isR_zero

/-- The same as a conversion of a comparison. -/
theorem one_eq (i : BitVec 32) (j : ℕ) : (FloatOps.uitofp .f32 (IntOp.cmpi .eq i (BitVec.ofNat 32 j)) : Ideal .f32) = one i j := by
  unfold one Scalar.select
  by_cases h : BitVec.ofNat 32 j = i
  · subst h; simp [IntOp.cmpi, FloatOps.uitofp]
  · have h' : ¬ i = BitVec.ofNat 32 j := fun e => h e.symm
    have e1 : (i == BitVec.ofNat 32 j) = false := by simpa using h'
    have e2 : (BitVec.ofNat 32 j == i) = false := by simpa using h
    simp [IntOp.cmpi, FloatOps.uitofp, e1, e2]

/-- The constant both programs add inside the noise. -/
def tiny : ℝ := (8388608 + 3990792 : ℝ) * (2 : ℝ) ^ (-90 : ℤ)

theorem tiny_eq : (Ideal.ofBits .f32 0x1E3CE508#32 : EReal) = (tiny : EReal) := by
  simp [Ideal.ofBits, Ideal.ieee, tiny, -EReal.coe_mul]
  norm_num

theorem tiny_pos : 0 < tiny := by unfold tiny; positivity
theorem tiny_lt : tiny < 1 / 8388608 := by unfold tiny; norm_num

/-- The number the low 23 bits stand for under the exponent of one. -/
theorem unit_bits (w : BitVec 32) : ∃ k : ℕ, k < 8388608 ∧ (Ideal.ofBits .f32 (w >>> 9 ||| 1065353216#32) : EReal) = ((1 + (k : ℝ) / 8388608 : ℝ) : EReal) := by
  have h1 : (w >>> 9 ||| 1065353216#32).extractLsb' 31 1 = 0#1 := by
    apply BitVec.eq_of_getLsbD_eq
    intro i hi
    have : i = 0 := by omega
    subst this
    simp
  have h2 : (w >>> 9 ||| 1065353216#32).extractLsb' 23 8 = 127#8 := by
    apply BitVec.eq_of_getLsbD_eq
    intro i hi
    have hz : (w >>> 9).getLsbD (23 + i) = false := by
      rw [BitVec.getLsbD_ushiftRight]; exact BitVec.getLsbD_of_ge _ _ (by omega)
    rw [BitVec.getLsbD_extractLsb', BitVec.getLsbD_or, hz]
    have : ∀ i : Fin 8, (decide (i.val < 8) && (false || (1065353216#32).getLsbD (23 + i.val))) = (127#8).getLsbD i.val := by decide
    exact this ⟨i, hi⟩
  refine ⟨((w >>> 9 ||| 1065353216#32).extractLsb' 0 23).toNat, lt_of_lt_of_eq (BitVec.isLt _) (by norm_num), ?_⟩
  unfold Ideal.ofBits Ideal.ieee
  simp only [h1, h2]
  rw [if_neg (by decide), if_neg (by decide), EReal.coe_eq_coe_iff]
  have e : ((127#8 : BitVec 8).toNat : ℤ) - (2 ^ (8 - 1) - 1) - ((23 : ℕ) : ℤ) = -23 := by decide
  rw [e, if_neg (by decide)]
  push_cast
  norm_num
  ring

/-- The noise is a real number, and the same in both programs' spelling. -/
theorem noise_spec (w : BitVec 32) : IsR (KerRead.noise w) ∧ RefRead.noise w = KerRead.noise w := by
  obtain ⟨k, hk, h⟩ := unit_bits w
  have hk' : (k : ℝ) ≤ 8388607 := by exact_mod_cast Nat.le_of_lt_succ hk
  have hk0 : (0 : ℝ) ≤ (k : ℝ) / 8388608 := by positivity
  have hk1 : (k : ℝ) / 8388608 ≤ 8388607 / 8388608 := by gcongr
  have t0 := tiny_pos
  have t1 := tiny_lt
  have hu : (((1 + (k : ℝ) / 8388608 : ℝ) : EReal) - (1 : EReal) + (tiny : EReal)) = (((k : ℝ) / 8388608 + tiny : ℝ) : EReal) := by
    rw [show (1 : EReal) = ((1 : ℝ) : EReal) from rfl, ← EReal.coe_sub, ← EReal.coe_add]; congr 1; ring
  have hl : Ideal.log (((k : ℝ) / 8388608 + tiny : ℝ) : EReal) = (Real.log ((k : ℝ) / 8388608 + tiny) : EReal) := by
    rw [Ideal.log_coe, if_neg (by linarith)]
  have hneg : Real.log ((k : ℝ) / 8388608 + tiny) < 0 := Real.log_neg (by linarith) (by
    have : (8388607 : ℝ) / 8388608 + 1 / 8388608 = 1 := by norm_num
    linarith)
  have hl2 : Ideal.log ((-Real.log ((k : ℝ) / 8388608 + tiny) : ℝ) : EReal) = (Real.log (-Real.log ((k : ℝ) / 8388608 + tiny)) : EReal) := by
    rw [Ideal.log_coe, if_neg (by linarith)]
  have hz : ∀ a : EReal, (0 : EReal) - a = -a := fun a => by rw [sub_eq_add_neg, zero_add]
  constructor
  · refine ⟨-Real.log (-Real.log ((k : ℝ) / 8388608 + tiny)), ?_⟩
    unfold KerRead.noise
    rw [h, tiny_eq, hu, hl, hz, hz, ← EReal.coe_neg, hl2, ← EReal.coe_neg]
  · unfold KerRead.noise RefRead.noise
    rw [h, tiny_eq, hz, hz]
    have : (((1 + (k : ℝ) / 8388608 : ℝ) : EReal) - ((1 : ℕ) : EReal) + (tiny : EReal)) = (((k : ℝ) / 8388608 + tiny : ℝ) : EReal) := by
      rw [Nat.cast_one]; exact hu
    first
      | rw [this, hu, max_eq_right (EReal.coe_le_coe_iff.mpr (by linarith))]
      | rw [hu, max_eq_right (EReal.coe_le_coe_iff.mpr (by linarith))]

end Cert.Math

end
-- ==== Proof.Finite.lean ====
/- What the precondition says: the rows and the two tables hold real numbers. -/
module

public import proofs.«01_k».proof.Defs
public import proofs.«01_k».proof.Proof.Math
public import Idealize.ShloMosaic.Lib.ReduceAll

@[expose] public section

set_option maxRecDepth 16384

noncomputable section

namespace Cert.Finite

open Idealize.ShloMosaic Idealize.SL.Sem Cert.Math Cert.Pre_finite

/-- The side conditions of the precondition's operations. -/
theorem preFacts : Cert.Pre_finite.Facts where
  bcast_S_S16x1024x512 := by decide
  reducesTo_S16x1024x512_S_d0_1_2 := by decide
  h_S_ := by decide
  bcast_S_S1024x256 := by decide
  reducesTo_S1024x256_S_d0_1 := by decide
  bcast_S_S64x256 := by decide
  reducesTo_S64x256_S_d0_1 := by decide

/-- A number whose absolute value is below plus infinity is real. -/
theorem isR_abs (a : EReal) (h : Ideal.cmp .olt (FloatOps.hostAbsf (F := Ideal) (φ := .f32) a) (Ideal.ofBits .f32 0x7F800000#32) = 1#1) : IsR a := by
  rw [pinf] at h
  induction a using EReal.rec with
  | bot =>
    change Ideal.cmp .olt (max (⊥ : EReal) (-⊥)) ⊤ = 1#1 at h
    simp [Ideal.cmp] at h
  | top =>
    change Ideal.cmp .olt (max (⊤ : EReal) (-⊤)) ⊤ = 1#1 at h
    simp [Ideal.cmp] at h
  | coe x => exact ⟨x, rfl⟩

theorem and_bits : ∀ a b : BitVec 1, IntOp.andi a b = 1#1 → a = 1#1 ∧ b = 1#1 := by decide

/-- The precondition gives real entries. -/
theorem fin_of (a0 : FVec Ideal S16x1024x512 .f32) (a1 : IVec S16x1024 1) (a2 : FVec Ideal S1024x256 .f32) (a3 : FVec Ideal S64x256 .f32)
    (h : @Cert.Pre_finite.fn preFacts Ideal _ a0 a1 a2 a3 = fun _ => 1#1) :
    (∀ i, IsR (a0 i)) ∧ (∀ i, IsR (a2 i)) ∧ ∀ i, IsR (a3 i) := by
  have h := congrFun h (fun i => i.elim0 : S_.Idx)
  obtain ⟨h, h3⟩ := and_bits _ _ h
  obtain ⟨h1, h2⟩ := and_bits _ _ h
  haveI : Subsingleton S_.Idx := ⟨fun a b => funext fun i => i.elim0⟩
  exact ⟨fun i => isR_abs _ (Host.reduce_andi_all _ _ _ _ _ h1 i), fun i => isR_abs _ (Host.reduce_andi_all _ _ _ _ _ h2 i),
    fun i => isR_abs _ (Host.reduce_andi_all _ _ _ _ _ h3 i)⟩

end Cert.Finite

end
-- ==== Proof.KerRow.lean ====
/- What one grid point of the kernel leaves, row by row: the codes, the chosen vectors, the counts and the loss, over
   the row's scores. -/
module

public import proofs.«01_k».proof.Proof.Math

@[expose] public section

set_option maxRecDepth 16384

noncomputable section

namespace Cert.KerRow

open Idealize.ShloMosaic Idealize.SL.Sem
open Cert.KernelIdeal Cert.KernelIdeal.Gen Cert.KerRead Cert.Math

variable (i : grid0.Coords) (I : Step.Ins Ideal)

/-- The score of a code of the first table for a row of the block. -/
def scS (r j : Fin 1024) : EReal := noise (Cipher.word Cipher.keyS (k0_pay14 (F := Ideal) i I.ps (ix2 r j))) - (I.d (ix2 r j) : EReal)

/-- The score of a code of the second table for a row of the block. -/
def scC (r : Fin 1024) (j : Fin 64) : EReal :=
  noise (Cipher.word Cipher.keyC (k0_pay60 (F := Ideal) (Step.num i) I.pc (ix2 r j))) - (Step.distC I (ix2 r j) : EReal)

/-- A difference of arrays, at an index. -/
theorem subf_at {s : Shape} (a b : FVec Ideal s .f32) (y : s.Idx) : (subf a b y : EReal) = (a y : EReal) - (b y : EReal) := rfl

/-- Where the scores made of given words are a row's greatest. -/
theorem hit_of (d : FVec Ideal S1024x1024 .f32) (a b : IVec S1024x1024 32) (W : S1024x1024.Idx → BitVec 32)
    (hW : ∀ y, Cipher.endS (a y, b y) = W y) (r j : Fin 1024) :
    k0_pay53 d a b k0_pay52 (ix2 r j) = hit (fun j : Fin 1024 => noise (W (ix2 r j)) - (d (ix2 r j) : EReal)) j := by
  have hs : ∀ r j : Fin 1024, (subf (nS (uS a b k0_pay52)) d (ix2 r j) : EReal) = noise (W (ix2 r j)) - (d (ix2 r j) : EReal) := fun r j => by
    rw [subf_at, nS_at, uS_at, hW]
  rw [pay53_eq, hS_at, mS_at, hs, show (fun k : Fin 1024 => (subf (nS (uS a b k0_pay52)) d (ix2 r k) : EReal)) = fun k => noise (W (ix2 r k)) - (d (ix2 r k) : EReal) from funext fun k => hs r k]
  unfold hit top
  with_reducible rfl

/-- The greatest scores of the first table. -/
theorem hitS_at (r j : Fin 1024) : Step.hitS i I (ix2 r j) = hit (scS i I r) j := by
  simp only [Step.hitS, Step.rndS', Step.rndS]
  exact hit_of I.d _ _ _ (Cipher.ker_wordS (k0_pay14 (F := Ideal) i I.ps)) r j

/-- The code of the first table a row gets. -/
theorem idxS_at (r : Fin 1024) : Step.idxS i I (ix1 r) = arg (scS i I r) := by
  unfold Step.idxS
  rw [pay55_eq, iS_at]
  unfold arg
  have hh : ∀ k : Fin 1024, sS (Step.hitS i I) (ix2 r k) = Scalar.select (hit (scS i I r) k) (BitVec.ofNat 32 k.val) (BitVec.ofNat 32 1024) := fun k => by
    rw [sS_at, hitS_at]
  simp only [hh]

/-- The vector of the first table a row gets. -/
theorem qS_at (r : Fin 1024) (k : Fin 256) : Step.qS i I (ix2 r k) = ∑ j : Fin 1024, one (arg (scS i I r)) j.val * (I.ws (ix2 j k) : EReal) := by
  unfold Step.qS
  rw [pay58_eq, gS_at]
  refine Finset.sum_congr rfl fun j _ => ?_
  rw [oS_at, ← idxS_at]
  rfl

/-- The valid rows of a code of the first table. -/
theorem cntS_at (c : Vec Ideal S1024 .f32) (j : Fin 1024) :
    (Step.cntS i I c (ix1 j) : EReal) = (c (ix1 j) : EReal) + ∑ r : Fin 1024, (I.m (ix1 r) : EReal) * one (arg (scS i I r)) j.val := by
  unfold Step.cntS
  rw [pay57_eq, cS_at]
  congr 1
  refine Finset.sum_congr rfl fun r _ => ?_
  rw [oS_at, ← idxS_at, pay11_at]
  rfl

/-- The first greatest place of a row of scores made of given words. -/
theorem arg_of (d : FVec Ideal S1024x64 .f32) (a b : IVec S1024x64 32) (W : S1024x64.Idx → BitVec 32)
    (hW : ∀ y, Cipher.endC (b y, a y + b y) = W y) (r : Fin 1024) :
    k0_pay102 d Step.colC a b (ix1 r) = arg (fun j : Fin 64 => noise (W (ix2 r j)) - (d (ix2 r j) : EReal)) := by
  have hs : ∀ (r : Fin 1024) (j : Fin 64), (subf (nC (uC a b)) d (ix2 r j) : EReal) = noise (W (ix2 r j)) - (d (ix2 r j) : EReal) := fun r j => by
    rw [subf_at, nC_at, uC_at, hW]
  have hf : (fun k : Fin 64 => (subf (nC (uC a b)) d (ix2 r k) : EReal)) = fun k => noise (W (ix2 r k)) - (d (ix2 r k) : EReal) := funext fun k => hs r k
  rw [pay102_eq, iC_at]
  have hh : ∀ k : Fin 64, sC (hC (subf (nC (uC a b)) d) (mC (subf (nC (uC a b)) d))) (ix2 r k)
      = Scalar.select (hit (fun j : Fin 64 => noise (W (ix2 r j)) - (d (ix2 r j) : EReal)) k) (BitVec.ofNat 32 k.val) (BitVec.ofNat 32 64) := fun k => by
    rw [sC_at, hC_at, mC_at, hs, hf]
    unfold hit top
    with_reducible rfl
  unfold arg
  simp only [hh]

/-- The code of the second table a row gets. -/
theorem idxC_at (r : Fin 1024) : Step.idxC i I (ix1 r) = arg (scC i I r) := by
  unfold Step.idxC
  exact arg_of (Step.distC I) _ _ _ (Cipher.ker_wordC (F := Ideal) (Step.num i) I.pc _ _ _ _ _ rfl rfl rfl rfl rfl) r

/-- The vector of the second table a row gets. -/
theorem qC_at (r : Fin 1024) (k : Fin 256) : Step.qC i I (ix2 r k) = ∑ j : Fin 64, one (arg (scC i I r)) j.val * (I.wc (ix2 j k) : EReal) := by
  unfold Step.qC Step.idxP
  rw [pay106_eq, gP_at]
  refine Finset.sum_congr rfl fun j _ => ?_
  rw [oP_at, ← idxC_at]
  rfl

/-- The valid rows of a code of the second table. -/
theorem cntC_at (c : Vec Ideal S128 .f32) (j : Fin 128) :
    (Step.cntC i I c (ix1 j) : EReal) = (c (ix1 j) : EReal) + ∑ r : Fin 1024, (I.m (ix1 r) : EReal) * one (arg (scC i I r)) j.val := by
  unfold Step.cntC Step.idxP
  rw [pay105_eq, cP_at]
  congr 1
  refine Finset.sum_congr rfl fun r _ => ?_
  rw [oP_at, ← idxC_at, pay11_at]
  rfl

/-- The valid rows' number. -/
theorem valid_eq (v : EReal) : (Step.valid I v : EReal) = v + ∑ r : Fin 1024, (I.m (ix1 r) : EReal) := by
  unfold Step.valid
  exact valid_at I.m v

/-- The block's loss. -/
theorem loss_eq (v : EReal) : (Step.loss i I v : EReal) = v + ((∑ r : Fin 1024, ∑ k : Fin 256,
      (((Step.qS i I (ix2 r k) : EReal) - (I.x (ix2 r ⟨k.val, by omega⟩) : EReal)) * ((Step.qS i I (ix2 r k) : EReal) - (I.x (ix2 r ⟨k.val, by omega⟩) : EReal))))
    + ∑ r : Fin 1024, ∑ k : Fin 256,
      (((Step.qC i I (ix2 r k) : EReal) - (I.x (ix2 r ⟨256 + k.val, by omega⟩) : EReal)) * ((Step.qC i I (ix2 r k) : EReal) - (I.x (ix2 r ⟨256 + k.val, by omega⟩) : EReal)))) := by
  have hq : gP (oP (k0_pay102 (Step.distC I) Step.colC (Step.rndC'' i I).1 (Step.rndC'' i I).2)) I.wc = Step.qC i I := by
    unfold Step.qC Step.idxP
    exact (pay106_eq _ _ _ _).symm
  unfold Step.loss Step.idxP
  rw [pay107_eq, hq]
  have h1 : (tot (subf (Step.qS i I) (k0_pay9 I.x)) : EReal) = ∑ r : Fin 1024, ∑ k : Fin 256,
      (((Step.qS i I (ix2 r k) : EReal) - (I.x (ix2 r ⟨k.val, by omega⟩) : EReal)) * ((Step.qS i I (ix2 r k) : EReal) - (I.x (ix2 r ⟨k.val, by omega⟩) : EReal))) := by
    rw [tot_at]
    refine Finset.sum_congr rfl fun r _ => Finset.sum_congr rfl fun k _ => ?_
    rw [← pay9_at I.x r k, subf_at]
  have h2 : (tot (subf (Step.qC i I) (k0_pay10 I.x)) : EReal) = ∑ r : Fin 1024, ∑ k : Fin 256,
      (((Step.qC i I (ix2 r k) : EReal) - (I.x (ix2 r ⟨256 + k.val, by omega⟩) : EReal)) * ((Step.qC i I (ix2 r k) : EReal) - (I.x (ix2 r ⟨256 + k.val, by omega⟩) : EReal))) := by
    rw [tot_at]
    refine Finset.sum_congr rfl fun r _ => Finset.sum_congr rfl fun k _ => ?_
    rw [← pay10_at I.x r k, subf_at]
  rw [← h1, ← h2]

/-- The rows' two chosen vectors side by side. -/
theorem q_at (r : Fin 1024) (k : Fin 512) : (Step.q i I (ix2 r k) : EReal) = if h : k.val < 256
    then ∑ j : Fin 1024, one (arg (scS i I r)) j.val * (I.ws (ix2 j ⟨k.val, h⟩) : EReal)
    else ∑ j : Fin 64, one (arg (scC i I r)) j.val * (I.wc (ix2 j ⟨k.val - 256, by omega⟩) : EReal) := by
  unfold Step.q
  by_cases h : k.val < 256
  · rw [dif_pos h, dif_pos (show ((ix2 r k : S1024x512.Idx) 1).val < 256 from h)]
    exact qS_at i I r ⟨k.val, h⟩
  · rw [dif_neg h, dif_neg (show ¬((ix2 r k : S1024x512.Idx) 1).val < 256 from h)]
    exact qC_at i I r ⟨k.val - 256, by omega⟩

end Cert.KerRow

end
-- ==== Proof.RefRow.lean ====
/- What the reference computes, row by row, for real arguments: the codes, the one-hot rows, and from them the results. -/
module

public import proofs.«01_k».proof.Proof.Math

@[expose] public section

set_option maxRecDepth 16384

noncomputable section

namespace Cert.RefRow

open Idealize.ShloMosaic Idealize.SL.Sem
open Cert.ReferenceIdeal Cert.ReferenceIdeal.Gen Cert.ReferenceIdeal.Value Cert.RefRead Cert.Math

/-- The bits of two. -/
theorem two_bits : IsR (Ideal.ofBits .f32 0x40000000#32 : EReal) := by
  refine ⟨2, ?_⟩
  simp [Ideal.ofBits, Ideal.ieee, -EReal.coe_mul]
  norm_num

/-- A score: the noise less the distance where the code is allowed, minus infinity elsewhere. -/
def score (ok : Prop) [Decidable ok] (D g : EReal) : EReal := if ok then g - D else ⊥

/-- A code is allowed: no row is background, or exactly one of the row's being background and the code's being foreground holds. -/
abbrev Ok (o b f : BitVec 1) : Prop := o = 0#1 ∨ b ≠ f

/-- The masked negated distance and the noise, in the reference's spelling. -/
theorem score_ref (o b f : BitVec 1) (D g : EReal) :
    Scalar.select o (Scalar.select (IntOp.andi (~~~b) (~~~f)) (Ideal.ofBits .f32 0xFF800000#32) (Scalar.select (IntOp.andi b f) (Ideal.ofBits .f32 0xFF800000#32) (-D))) (-D) + g
      = score (Ok o b f) D g := by
  have hd : -D + g = g - D := by rw [add_comm, sub_eq_add_neg]
  rw [ninf]
  unfold score
  rcases BitVec.eq_zero_or_eq_one o with rfl | rfl <;> rcases BitVec.eq_zero_or_eq_one b with rfl | rfl <;> rcases BitVec.eq_zero_or_eq_one f with rfl | rfl <;>
    simp [Scalar.select, IntOp.andi, hd]

/-- The squared distance of a row from a code. -/
def dist {a b : ℕ} (x : Fin a → Fin 256 → EReal) (w : Fin b → Fin 256 → EReal) (r : Fin a) (j : Fin b) : EReal :=
  (∑ k : Fin 256, x r k * x r k) + (∑ k : Fin 256, w j k * w j k) - Ideal.ofBits .f32 0x40000000#32 * ∑ k : Fin 256, x r k * w j k

theorem isR_dist {a b : ℕ} (x : Fin a → Fin 256 → EReal) (w : Fin b → Fin 256 → EReal) (hx : ∀ r k, IsR (x r k)) (hw : ∀ r k, IsR (w r k))
    (r : Fin a) (j : Fin b) : IsR (dist x w r j) :=
  ((IsR.sum _ _ fun k _ => (hx r k).mul (hx r k)).add (IsR.sum _ _ fun k _ => (hw j k).mul (hw j k))).sub
    (two_bits.mul (IsR.sum _ _ fun k _ => (hx r k).mul (hw j k)))

variable (V : Valuation τ sig (Elt Ideal))

/-- The rows. -/
abbrev X (r : Fin 16384) (k : Fin 512) : EReal := res_main_v0 V (ix2 r k)
/-- The rows' first halves. -/
abbrev X1 (r : Fin 16384) (k : Fin 256) : EReal := X V r ⟨k.val, by omega⟩
/-- The rows' second halves. -/
abbrev X2 (r : Fin 16384) (k : Fin 256) : EReal := X V r ⟨256 + k.val, by omega⟩
/-- The first table. -/
abbrev W1 (j : Fin 1024) (k : Fin 256) : EReal := V (Proc.devRef .tc main_arg2) (ix2 j k)
/-- The second table. -/
abbrev W2 (j : Fin 64) (k : Fin 256) : EReal := V (Proc.devRef .tc main_arg3) (ix2 j k)
/-- The rows' validity. -/
abbrev mk (r : Fin 16384) : EReal := res_main_v265 V (ix1 r)
/-- A row is background. -/
abbrev bg (r : Fin 16384) : BitVec 1 := Ideal.cmp .olt (∑ k : Fin 512, (@FloatOps.absf Ideal _ .f32 (X V r k) : EReal)) (Ideal.ofBits .f32 0x358637BD#32)
/-- Some row is background. -/
abbrev some1 : BitVec 1 := Finset.univ.fold IntOp.ori 0#1 fun r : Fin 16384 => bg V r
/-- A code is of the foreground. -/
abbrev fg (j : Fin 1024) : BitVec 1 := IntOp.cmpi .sge (BitVec.ofNat 32 j.val) 16#32

/-- The scores of the first table. -/
def sc1 (r : Fin 16384) (j : Fin 1024) : EReal :=
  score (Ok (some1 V) (bg V r) (fg j)) (dist (X1 V) (W1 V) r j) (KerRead.noise (Cipher.word Cipher.keyS (res_main_v51 V (ix2 r j))))

/-- The scores of the second table. -/
def sc2 (r : Fin 16384) (j : Fin 64) : EReal :=
  KerRead.noise (Cipher.word Cipher.keyC (res_main_v305 V (ix2 r j))) - dist (X2 V) (W2 V) r j

theorem word1 (y : S16384x1024.Idx) : uS (res_main_v208 V) (res_main_v209 V) y = Cipher.word Cipher.keyS (res_main_v51 V y) := by
  have h1 : res_main_v208 V y = (Cipher.odd3 .host (res_main_v187 V y, res_main_v188 V y)).1 := rfl
  have h2 : res_main_v209 V y = (Cipher.odd3 .host (res_main_v187 V y, res_main_v188 V y)).2 := rfl
  rw [← Cipher.ref_wordS, ← h1, ← h2]
  rfl

theorem word2 (y : S16384x64.Idx) : uC (res_main_v462 V) (res_main_v463 V) y = Cipher.word Cipher.keyC (res_main_v305 V y) := by
  have h1 : res_main_v462 V y = (Cipher.odd3 .host (res_main_v441 V y, res_main_v442 V y)).1 := rfl
  have h2 : res_main_v463 V y = (Cipher.odd3 .host (res_main_v441 V y, res_main_v442 V y)).2 := rfl
  rw [← Cipher.ref_wordC, ← h1, ← h2]
  rfl

theorem v6_at (r : Fin 16384) (k : Fin 256) : (res_main_v6 V (ix2 r k) : EReal) = X1 V r k := by
  unfold res_main_v6; pointwise

theorem v7_at (r : Fin 16384) (k : Fin 256) : (res_main_v7 V (ix2 r k) : EReal) = X2 V r k := by
  unfold res_main_v7; pointwise

theorem v22_at (r : Fin 16384) (j : Fin 1024) : (res_main_v22 V (ix2 r j) : EReal) = -dist (X1 V) (W1 V) r j := by
  rw [lS_eq, lS_at]
  simp only [v6_at]
  unfold dist
  with_reducible rfl

/-- The reference's scores of the first table. -/
theorem v242_at (r : Fin 16384) (j : Fin 1024) : (res_main_v242 V (ix2 r j) : EReal) = sc1 V r j := by
  rw [zS_eq, zS_at, nS_at, word1, (noise_spec _).2, one_bits, div_one, kS_at, or_at, v22_at, bgR_eq, fgR_eq, fgR_at]
  simp only [bgR_at]
  exact score_ref _ _ _ _ _

/-- The reference's scores of the second table. -/
theorem v496_at (r : Fin 16384) (j : Fin 64) : (res_main_v496 V (ix2 r j) : EReal) = sc2 V r j := by
  rw [zC_eq, zC_at, nC_at, word2, (noise_spec _).2, one_bits, div_one, lC_at]
  simp only [v7_at]
  unfold sc2 dist
  rw [add_comm, sub_eq_add_neg (KerRead.noise _)]

/-- Softmax of the first table's scores. -/
theorem v253_at (r : Fin 16384) (j : Fin 1024) : (res_main_v253 V (ix2 r j) : EReal) = soft (sc1 V r) j := by
  rw [yS_eq, yS_at]
  simp only [eS_eq, eS_at, mS_at, v242_at]
  unfold soft top
  with_reducible rfl

/-- Softmax of the second table's scores. -/
theorem v507_at (r : Fin 16384) (j : Fin 64) : (res_main_v507 V (ix2 r j) : EReal) = soft (sc2 V r) j := by
  rw [yC_eq, yC_at]
  simp only [eC_eq, eC_at, mC_at, v496_at]
  unfold soft top
  with_reducible rfl

variable (hX : ∀ r k, IsR (X V r k)) (hW1 : ∀ j k, IsR (W1 V j k)) (hW2 : ∀ j k, IsR (W2 V j k))
include hX hW1

/-- A row's scores of the first table: none is plus infinity and one is real. -/
theorem sc1_real (r : Fin 16384) : (∀ j, sc1 V r j ≠ ⊤) ∧ ∃ j, sc1 V r j ≠ ⊥ := by
  have hd : ∀ j, IsR (KerRead.noise (Cipher.word Cipher.keyS (res_main_v51 V (ix2 r j))) - dist (X1 V) (W1 V) r j) := fun j =>
    (noise_spec _).1.sub (isR_dist _ _ (fun r k => hX r _) hW1 r j)
  constructor
  · intro j
    unfold sc1 score
    split
    · exact (hd j).ne_top
    · exact bot_ne_top
  · have ⟨j, hj⟩ : ∃ j, Ok (some1 V) (bg V r) (fg j) := by
      have h0 : fg 0 = 0#1 := by decide
      have h1 : fg 16 = 1#1 := by decide
      rcases BitVec.eq_zero_or_eq_one (bg V r) with h | h
      · exact ⟨16, .inr (by rw [h, h1]; decide)⟩
      · exact ⟨0, .inr (by rw [h, h0]; decide)⟩
    refine ⟨j, ?_⟩
    unfold sc1 score
    rw [if_pos hj]
    exact (hd j).ne_bot

/-- The code of the first table a row gets. -/
theorem idx1 (r : Fin 16384) :
    iS (sS (res_main_v253 V) (Host.reduce FloatOps.maximumf (res_main_v253 V) (constant S_ .f32 0xFF800000#32) reducesTo_S16384x1024_S16384_d1 h_S_)) (ix1 r) = arg (sc1 V r) := by
  have hs := soft_spec (sc1 V r) (sc1_real V hX hW1 r).1 (sc1_real V hX hW1 r).2
  rw [iS_at]
  unfold arg
  have hh : ∀ k : Fin 1024, sS (res_main_v253 V) (Host.reduce FloatOps.maximumf (res_main_v253 V) (constant S_ .f32 0xFF800000#32) reducesTo_S16384x1024_S16384_d1 h_S_) (ix2 r k)
      = Scalar.select (hit (sc1 V r) k) (BitVec.ofNat 32 k.val) (BitVec.ofNat 32 1024) := fun k => by
    rw [sS_at, mS_at, ← hit_congr hs.2]
    simp only [v253_at]
    unfold hit top
    with_reducible rfl
  simp only [hh]

/-- The one-hot rows of the first table. -/
theorem v263_at (r : Fin 16384) (j : Fin 1024) : (res_main_v263 V (ix2 r j) : EReal) = one (arg (sc1 V r)) j.val := by
  have hs := soft_spec (sc1 V r) (sc1_real V hX hW1 r).1 (sc1_real V hX hW1 r).2
  rw [hS_eq, hS_at, idx1 V hX hW1, one_eq, v253_at]
  exact sub_add_back (isR_one_at _ _) (hs.1 j)

/-- The shares of the first table's codes. -/
theorem v273_at (j : Fin 1024) : (res_main_v273 V (ix1 j) : EReal)
    = Ideal.div (∑ r : Fin 16384, one (arg (sc1 V r)) j.val * mk V r) (max (∑ r : Fin 16384, mk V r) (1 : EReal)) := by
  rw [pS_eq, pS_at]
  simp only [v263_at V hX hW1]

omit hW1
include hW2

/-- A row's scores of the second table are real. -/
theorem sc2_real (r : Fin 16384) (j : Fin 64) : IsR (sc2 V r j) :=
  (noise_spec _).1.sub (isR_dist _ _ (fun r k => hX r _) hW2 r j)

/-- The code of the second table a row gets. -/
theorem idx2 (r : Fin 16384) :
    iC (sC (res_main_v507 V) (Host.reduce FloatOps.maximumf (res_main_v507 V) (constant S_ .f32 0xFF800000#32) reducesTo_S16384x64_S16384_d1 h_S_)) (ix1 r) = arg (sc2 V r) := by
  have hs := soft_spec (sc2 V r) (fun j => (sc2_real V hX hW2 r j).ne_top) ⟨0, (sc2_real V hX hW2 r 0).ne_bot⟩
  rw [iC_at]
  unfold arg
  have hh : ∀ k : Fin 64, sC (res_main_v507 V) (Host.reduce FloatOps.maximumf (res_main_v507 V) (constant S_ .f32 0xFF800000#32) reducesTo_S16384x64_S16384_d1 h_S_) (ix2 r k)
      = Scalar.select (hit (sc2 V r) k) (BitVec.ofNat 32 k.val) (BitVec.ofNat 32 64) := fun k => by
    rw [sC_at, mC_at, ← hit_congr hs.2]
    simp only [v507_at]
    unfold hit top
    with_reducible rfl
  simp only [hh]

/-- The one-hot rows of the second table. -/
theorem v517_at (r : Fin 16384) (j : Fin 64) : (res_main_v517 V (ix2 r j) : EReal) = one (arg (sc2 V r)) j.val := by
  have hs := soft_spec (sc2 V r) (fun j => (sc2_real V hX hW2 r j).ne_top) ⟨0, (sc2_real V hX hW2 r 0).ne_bot⟩
  rw [hC_eq, hC_at, idx2 V hX hW2, one_eq, v507_at]
  exact sub_add_back (isR_one_at _ _) (hs.1 j)

/-- The shares of the second table's codes. -/
theorem v527_at (j : Fin 64) : (res_main_v527 V (ix1 j) : EReal)
    = Ideal.div (∑ r : Fin 16384, one (arg (sc2 V r)) j.val * mk V r) (max (∑ r : Fin 16384, mk V r) (1 : EReal)) := by
  rw [pC_eq, pC_at, show res_main_v519 V = res_main_v265 V from rfl]
  simp only [v517_at V hX hW2]

include hW1

/-- A row's two chosen vectors, side by side. -/
def qs (r : Fin 16384) (k : Fin 512) : EReal := if h : k.val < 256
    then ∑ j : Fin 1024, one (arg (sc1 V r)) j.val * W1 V j ⟨k.val, h⟩
    else ∑ j : Fin 64, one (arg (sc2 V r)) j.val * W2 V j ⟨k.val - 256, by omega⟩

/-- The reference's chosen vectors. -/
theorem v535_at (r : Fin 16384) (k : Fin 512) : (res_main_v535 V (ix2 r k) : EReal) = qs V r k := by
  rw [qR_eq, qR_at]
  simp only [v263_at V hX hW1, v517_at V hX hW2]
  unfold qs
  with_reducible rfl

/-- They are real. -/
theorem isR_qs (r : Fin 16384) (k : Fin 512) : IsR (qs V r k) := by
  unfold qs
  split
  · exact IsR.sum _ _ fun j _ => (isR_one_at _ _).mul (hW1 _ _)
  · exact IsR.sum _ _ fun j _ => (isR_one_at _ _).mul (hW2 _ _)

end Cert.RefRow

end
-- ==== Proof.KerHost.lean ====
/- The kernel's blocks, at an index, as entries of the arrays the launch finds; and those arrays as functions of the arguments. -/
module

public import proofs.«01_k».proof.Proof.Whole
public import proofs.«01_k».proof.Proof.KerRow
public import proofs.«01_k».proof.Proof.RefRow
public import Idealize.ShloMosaic.Lib.Pipeline.ValueKit

@[expose] public section

set_option maxRecDepth 16384

noncomputable section

namespace Cert.KerHost

open Idealize.ShloMosaic Idealize.ShloMosaic.TcCoe Idealize.SL.Sem
open Cert.KernelIdeal Cert.KernelIdeal.Gen Cert.Math

variable (m : (ℓ : Loc nD τ sig) → Buf (Elt Ideal) ℓ) (c : Dev nD)

/-- A grid point's number is below 16. -/
theorem t_lt (t : Fin cfg0.N) : t.val < 16 := lt_of_lt_of_eq t.isLt (show cfg0.N = 16 from N_0)

/-- The row of the whole array that a block's row is. -/
def row (t : Fin cfg0.N) (r : Fin 1024) : Fin 16384 := ⟨1024 * t.val + r.val, by have := t_lt t; omega⟩

/-- The rows. -/
def rows (a : S16x1024x512.Idx → EReal) : FVec Ideal S16384x512 .f32 := shapeCast S16384x512 a shapeCasts_S16x1024x512_S16384x512
/-- The rows' first halves' squared lengths. -/
def sqA (x : FVec Ideal S16384x512 .f32) : FVec Ideal S16384 .f32 :=
  Host.reduceAdd (mulf (extractStridedSlice S16384x256 ![0, 0] x slices_S16384x512_S16384x256_0_0) (extractStridedSlice S16384x256 ![0, 0] x slices_S16384x512_S16384x256_0_0)) (constant S_ .f32 0x00000000#32) reducesTo_S16384x256_S16384_d1 h_S_
/-- The rows' second halves' squared lengths. -/
def sqB (x : FVec Ideal S16384x512 .f32) : FVec Ideal S16384 .f32 :=
  Host.reduceAdd (mulf (extractStridedSlice S16384x256 ![0, 256] x slices_S16384x512_S16384x256_0_256) (extractStridedSlice S16384x256 ![0, 256] x slices_S16384x512_S16384x256_0_256)) (constant S_ .f32 0x00000000#32) reducesTo_S16384x256_S16384_d1 h_S_
/-- The first table's codes' squared lengths. -/
def sqS (w : FVec Ideal S1024x256 .f32) : FVec Ideal S1024 .f32 := Host.reduceAdd (mulf w w) (constant S_ .f32 0x00000000#32) reducesTo_S1024x256_S1024_d1 h_S_
/-- The second table's codes' squared lengths. -/
def sqC (w : FVec Ideal S64x256 .f32) : FVec Ideal S64 .f32 := Host.reduceAdd (mulf w w) (constant S_ .f32 0x00000000#32) reducesTo_S64x256_S64_d1 h_S_
/-- Which rows are background, as a number. -/
def back (x : FVec Ideal S16384x512 .f32) : FVec Ideal S16384 .f32 :=
  uitofp .f32 (cmpf .olt (Host.reduceAdd (Host.absf x) (constant S_ .f32 0x00000000#32) reducesTo_S16384x512_S16384_d1 h_S_) (broadcastInDim S16384 ![] bcast_S_S16384 (constant (F := Ideal) S_ .f32 0x358637BD#32)))
/-- Whether a row is background, as a number. -/
def anyB (b : FVec Ideal S16384 .f32) : FVec Ideal S1 .f32 :=
  broadcastInDim S1 ![] bcast_S_S1 (Host.reduce FloatOps.maximumf b (constant S_ .f32 0xFF800000#32) reducesTo_S16384_S_d0 h_S_)
/-- The rows' validity, as a number. -/
def vals (a : S16x1024.Idx → BitVec 1) : FVec Ideal S16384 .f32 := uitofp .f32 (shapeCast S16384 a shapeCasts_S16x1024_S16384 : IVec S16384 1)
/-- The numbers of the entries of the first noise block. -/
def posS : IVec S1024x1024 32 :=
  addi (broadcastInDim S1024x1024 ![0, 1] bcast_S1024x1_S1024x1024_0_1 (muli (broadcastInDim S1024x1 ![0] bcast_S1024_S1024x1_0 (iotaInDim S1024 32 0)) (broadcastInDim S1024x1 ![] bcast_S_S1024x1 (constantI S_ 32 1024#32))))
    (broadcastInDim S1024x1024 ![0, 1] bcast_S1x1024_S1024x1024_0_1 (broadcastInDim S1x1024 ![1] bcast_S1024_S1x1024_1 (iotaInDim S1024 32 0)))
/-- The numbers of the entries of the second noise block. -/
def posC : IVec S1024x64 32 :=
  addi (broadcastInDim S1024x64 ![0, 1] bcast_S1024x1_S1024x64_0_1 (muli (broadcastInDim S1024x1 ![0] bcast_S1024_S1024x1_0 (iotaInDim S1024 32 0)) (broadcastInDim S1024x1 ![] bcast_S_S1024x1 (constantI S_ 32 64#32))))
    (broadcastInDim S1024x64 ![0, 1] bcast_S1x64_S1024x64_0_1 (broadcastInDim S1x64 ![1] bcast_S64_S1x64_1 (iotaInDim S64 32 0)))

/-! What the arrays hold when the launch starts. -/
theorem v0_eq : (V m c main_v0 : FVec Ideal S16384x512 .f32) = rows (m ((c.tc : Thread nD τ).loc main_arg0)) := rfl

theorem x2s_eq : (V m c main_call0_v2 : FVec Ideal S16384 .f32) = sqA (rows (m ((c.tc : Thread nD τ).loc main_arg0))) := by
  unfold V V0
  simp only [hostOps0, hostOps0_1, List.flatten_cons, List.flatten_nil, List.append_nil, List.cons_append, List.nil_append]
  after_results_simp
  rfl

theorem x2c_eq : (V m c main_call0_v5 : FVec Ideal S16384 .f32) = sqB (rows (m ((c.tc : Thread nD τ).loc main_arg0))) := by
  unfold V V0
  simp only [hostOps0, hostOps0_1, List.flatten_cons, List.flatten_nil, List.append_nil, List.cons_append, List.nil_append]
  after_results_simp
  rfl

theorem w2s_eq : (V m c main_call0_v7 : FVec Ideal S1024 .f32) = sqS (m ((c.tc : Thread nD τ).loc main_arg2)) := by
  unfold V V0
  simp only [hostOps0, hostOps0_1, List.flatten_cons, List.flatten_nil, List.append_nil, List.cons_append, List.nil_append]
  after_results_simp
  rfl

theorem w2c_eq : (V m c main_call0_v9 : FVec Ideal S64 .f32) = sqC (m ((c.tc : Thread nD τ).loc main_arg3)) := by
  unfold V V0
  simp only [hostOps0, hostOps0_1, List.flatten_cons, List.flatten_nil, List.append_nil, List.cons_append, List.nil_append]
  after_results_simp
  rfl

theorem bg_eq : (V m c main_call0_v14 : FVec Ideal S16384 .f32) = back (rows (m ((c.tc : Thread nD τ).loc main_arg0))) := by
  unfold V V0
  simp only [hostOps0, hostOps0_1, List.flatten_cons, List.flatten_nil, List.append_nil, List.cons_append, List.nil_append]
  after_results_simp
  rfl

theorem hb_eq : (V m c main_call0_v16 : FVec Ideal S1 .f32) = anyB (back (rows (m ((c.tc : Thread nD τ).loc main_arg0)))) := by
  unfold V V0
  simp only [hostOps0, hostOps0_1, List.flatten_cons, List.flatten_nil, List.append_nil, List.cons_append, List.nil_append]
  after_results_simp
  simp only [StableHlo.TRef.ofBuf_toBuf]
  refine (cast_eq _ _).trans ?_
  unfold anyB
  refine congrArg (fun b : FVec Ideal S16384 .f32 => broadcastInDim S1 ![] bcast_S_S1 (Host.reduce FloatOps.maximumf b (constant S_ .f32 0xFF800000#32) reducesTo_S16384_S_d0 h_S_)) ?_
  rfl

theorem ps_eq : (V m c main_call0_v25 : IVec S1024x1024 32) = posS := by
  unfold V V0
  simp only [hostOps0, hostOps0_1, List.flatten_cons, List.flatten_nil, List.append_nil, List.cons_append, List.nil_append]
  after_results_simp
  rfl

theorem pc_eq : (V m c main_call0_v34 : IVec S1024x64 32) = posC := by
  unfold V V0
  simp only [hostOps0, hostOps0_1, List.flatten_cons, List.flatten_nil, List.append_nil, List.cons_append, List.nil_append]
  after_results_simp
  rfl

theorem m_eq : (V m c main_v2 : FVec Ideal S16384 .f32) = vals (m ((c.tc : Thread nD τ).loc main_arg1)) := rfl

/-! Those functions at an index. -/
theorem sqA_at (x : FVec Ideal S16384x512 .f32) (r : Fin 16384) : sqA x (ix1 r) = ∑ k : Fin 256, x (ix2 r ⟨k.val, by omega⟩) * x (ix2 r ⟨k.val, by omega⟩) := by
  unfold sqA; pointwise

theorem sqB_at (x : FVec Ideal S16384x512 .f32) (r : Fin 16384) : sqB x (ix1 r) = ∑ k : Fin 256, x (ix2 r ⟨256 + k.val, by omega⟩) * x (ix2 r ⟨256 + k.val, by omega⟩) := by
  unfold sqB; pointwise

theorem sqS_at (w : FVec Ideal S1024x256 .f32) (j : Fin 1024) : sqS w (ix1 j) = ∑ k : Fin 256, w (ix2 j k) * w (ix2 j k) := by
  unfold sqS; pointwise

theorem sqC_at (w : FVec Ideal S64x256 .f32) (j : Fin 64) : sqC w (ix1 j) = ∑ k : Fin 256, w (ix2 j k) * w (ix2 j k) := by
  unfold sqC; pointwise

theorem back_at (x : FVec Ideal S16384x512 .f32) (r : Fin 16384) : back x (ix1 r)
    = FloatOps.uitofp (F := Ideal) .f32 (Ideal.cmp .olt (∑ k : Fin 512, (@FloatOps.absf Ideal _ .f32 (x (ix2 r k)) : EReal)) (Ideal.ofBits .f32 0x358637BD#32)) := by
  unfold back; pointwise

theorem anyB_at (b : FVec Ideal S16384 .f32) : anyB b (ix1 0) = Finset.univ.fold max (Ideal.ofBits .f32 0xFF800000#32) fun r : Fin 16384 => b (ix1 r) := by
  unfold anyB; pointwise

theorem posS_at (r j : Fin 1024) : posS (ix2 r j) = BitVec.ofNat 32 r.val * 1024#32 + BitVec.ofNat 32 j.val := by
  unfold posS; pointwise; rfl

theorem posC_at (r : Fin 1024) (j : Fin 64) : posC (ix2 r j) = BitVec.ofNat 32 r.val * 64#32 + BitVec.ofNat 32 j.val := by
  unfold posC; pointwise; rfl

end Cert.KerHost

end
-- ==== Proof.KerBlk.lean ====
/- The kernel's blocks, at an index, as entries of the arrays the launch finds. -/
module

public import proofs.«01_k».proof.Proof.KerHost
public import Idealize.ShloMosaic.Lib.Pipeline.ValueKit

@[expose] public section

set_option maxRecDepth 16384

noncomputable section

namespace Cert.KerBlk

open Idealize.ShloMosaic Idealize.ShloMosaic.TcCoe Idealize.SL.Sem
open Cert.KernelIdeal Cert.KernelIdeal.Gen Cert.Math Cert.KerHost

variable (m : (ℓ : Loc nD τ sig) → Buf (Elt Ideal) ℓ) (c : Dev nD)

/-! The index maps. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val] := (by decide +kernel : ∀ t : Fin grid0.N, win0_5.index t = ![t.val])
theorem idx6 : ∀ t : Fin cfg0.N, win0_6.index t = ![t.val] := (by decide +kernel : ∀ t : Fin grid0.N, win0_6.index t = ![t.val])
theorem idx7 : ∀ t : Fin cfg0.N, win0_7.index t = ![0] := (by decide +kernel : ∀ t : Fin grid0.N, win0_7.index t = ![0])
theorem idx8 : ∀ t : Fin cfg0.N, win0_8.index t = ![0] := (by decide +kernel : ∀ t : Fin grid0.N, win0_8.index t = ![0])
theorem idx9 : ∀ t : Fin cfg0.N, win0_9.index t = ![t.val] := (by decide +kernel : ∀ t : Fin grid0.N, win0_9.index t = ![t.val])
theorem idx10 : ∀ t : Fin cfg0.N, win0_10.index t = ![t.val] := (by decide +kernel : ∀ t : Fin grid0.N, win0_10.index t = ![t.val])
theorem idx11 : ∀ t : Fin cfg0.N, win0_11.index t = ![0] := (by decide +kernel : ∀ t : Fin grid0.N, win0_11.index t = ![0])

/-! A block read of any array. -/
theorem rd0 (A : Buf (Elt Ideal) ((c.tc : Thread nD τ).loc (Pipeline.arrRef spec0 0))) (t : Fin cfg0.N) (r : Fin 1024) (k : Fin 512) :
    (((cfg0.win 0).blk t).view.read (Elt Ideal) A (ix2 r k : S1024x512.Idx) : EReal) = (A (ix2 (row t r) k : S16384x512.Idx) : EReal) := by
  blk_ext [row, idx0 t]

theorem rd1 (A : Buf (Elt Ideal) ((c.tc : Thread nD τ).loc (Pipeline.arrRef spec0 1))) (t : Fin cfg0.N) (r : Fin 1024) (k : Fin 256) :
    (((cfg0.win 1).blk t).view.read (Elt Ideal) A (ix2 r k : S1024x256.Idx) : EReal) = (A (ix2 r k : S1024x256.Idx) : EReal) := by
  blk_ext [row, idx1 t]

theorem rd2 (A : Buf (Elt Ideal) ((c.tc : Thread nD τ).loc (Pipeline.arrRef spec0 2))) (t : Fin cfg0.N) (r : Fin 64) (k : Fin 256) :
    (((cfg0.win 2).blk t).view.read (Elt Ideal) A (ix2 r k : S64x256.Idx) : EReal) = (A (ix2 r k : S64x256.Idx) : EReal) := by
  blk_ext [row, idx2 t]

theorem rd3 (A : Buf (Elt Ideal) ((c.tc : Thread nD τ).loc (Pipeline.arrRef spec0 3))) (t : Fin cfg0.N) (r : Fin 1024) (k : Fin 1024) :
    (((cfg0.win 3).blk t).view.read (Elt Ideal) A (ix2 r k : S1024x1024.Idx) : BitVec 32) = (A (ix2 r k : S1024x1024.Idx) : BitVec 32) := by
  blk_ext [row, idx3 t]

theorem rd4 (A : Buf (Elt Ideal) ((c.tc : Thread nD τ).loc (Pipeline.arrRef spec0 4))) (t : Fin cfg0.N) (r : Fin 1024) (k : Fin 64) :
    (((cfg0.win 4).blk t).view.read (Elt Ideal) A (ix2 r k : S1024x64.Idx) : BitVec 32) = (A (ix2 r k : S1024x64.Idx) : BitVec 32) := by
  blk_ext [row, idx4 t]

theorem rd5 (A : Buf (Elt Ideal) ((c.tc : Thread nD τ).loc (Pipeline.arrRef spec0 5))) (t : Fin cfg0.N) (r : Fin 1024) :
    (((cfg0.win 5).blk t).view.read (Elt Ideal) A (ix1 r : S1024.Idx) : EReal) = (A (ix1 (row t r) : S16384.Idx) : EReal) := by
  blk_ext [row, idx5 t]

theorem rd6 (A : Buf (Elt Ideal) ((c.tc : Thread nD τ).loc (Pipeline.arrRef spec0 6))) (t : Fin cfg0.N) (r : Fin 1024) :
    (((cfg0.win 6).blk t).view.read (Elt Ideal) A (ix1 r : S1024.Idx) : EReal) = (A (ix1 (row t r) : S16384.Idx) : EReal) := by
  blk_ext [row, idx6 t]

theorem rd7 (A : Buf (Elt Ideal) ((c.tc : Thread nD τ).loc (Pipeline.arrRef spec0 7))) (t : Fin cfg0.N) (r : Fin 1024) :
    (((cfg0.win 7).blk t).view.read (Elt Ideal) A (ix1 r : S1024.Idx) : EReal) = (A (ix1 r : S1024.Idx) : EReal) := by
  blk_ext [row, idx7 t]

theorem rd8 (A : Buf (Elt Ideal) ((c.tc : Thread nD τ).loc (Pipeline.arrRef spec0 8))) (t : Fin cfg0.N) (r : Fin 64) :
    (((cfg0.win 8).blk t).view.read (Elt Ideal) A (ix1 r : S64.Idx) : EReal) = (A (ix1 r : S64.Idx) : EReal) := by
  blk_ext [row, idx8 t]

theorem rd9 (A : Buf (Elt Ideal) ((c.tc : Thread nD τ).loc (Pipeline.arrRef spec0 9))) (t : Fin cfg0.N) (r : Fin 1024) :
    (((cfg0.win 9).blk t).view.read (Elt Ideal) A (ix1 r : S1024.Idx) : EReal) = (A (ix1 (row t r) : S16384.Idx) : EReal) := by
  blk_ext [row, idx9 t]

theorem rd10 (A : Buf (Elt Ideal) ((c.tc : Thread nD τ).loc (Pipeline.arrRef spec0 10))) (t : Fin cfg0.N) (r : Fin 1024) :
    (((cfg0.win 10).blk t).view.read (Elt Ideal) A (ix1 r : S1024.Idx) : EReal) = (A (ix1 (row t r) : S16384.Idx) : EReal) := by
  blk_ext [row, idx10 t]

theorem rd11 (A : Buf (Elt Ideal) ((c.tc : Thread nD τ).loc (Pipeline.arrRef spec0 11))) (t : Fin cfg0.N) (r : Fin 1) :
    (((cfg0.win 11).blk t).view.read (Elt Ideal) A (ix1 r : S1.Idx) : EReal) = (A (ix1 r : S1.Idx) : EReal) := by
  blk_ext [row, idx11 t]

end Cert.KerBlk

end
-- ==== Proof.Bridge.lean ====
/- The two programs' rows agree: what a grid point of the kernel computes with, in the reference's terms. -/
module

public import proofs.«01_k».proof.Proof.KerBlk

@[expose] public section

set_option maxRecDepth 16384

noncomputable section

namespace Cert.Bridge

open Idealize.ShloMosaic Idealize.ShloMosaic.TcCoe Idealize.SL.Sem
open Cert.KernelIdeal Cert.KernelIdeal.Gen Cert.KernelIdeal.Whole Cert.Math Cert.KerHost Cert.KerBlk Cert.KerRow Cert.RefRow

/-- A disjunction of bits is one exactly if one of them is. -/
theorem fold_or {ι : Type} (s : Finset ι) (f : ι → BitVec 1) : s.fold IntOp.ori 0#1 f = 1#1 ↔ ∃ x ∈ s, f x = 1#1 := by
  classical
  induction s using Finset.induction_on with
  | empty => simp
  | insert a s ha ih =>
    rw [Finset.fold_insert ha]
    have h : ∀ x y : BitVec 1, IntOp.ori x y = 1#1 ↔ x = 1#1 ∨ y = 1#1 := by decide
    rw [h, ih]
    simp

/-- The bits of a half. -/
theorem half_bits : (Ideal.ofBits .f32 0x3F000000#32 : EReal) = ((1 / 2 : ℝ) : EReal) := by
  simp [Ideal.ofBits, Ideal.ieee, -EReal.coe_mul]
  norm_num

/-- A bit as a number is above a half exactly if it is one. -/
theorem half_lt (b : BitVec 1) : (Ideal.ofBits .f32 0x3F000000#32 : EReal) < (FloatOps.uitofp .f32 b : Ideal .f32) ↔ b = 1#1 := by
  rw [half_bits]
  rcases BitVec.eq_zero_or_eq_one b with rfl | rfl
  · have : (FloatOps.uitofp .f32 0#1 : Ideal .f32) = ((0 : ℝ) : EReal) := by simp [FloatOps.uitofp]
    rw [this, EReal.coe_lt_coe_iff]
    norm_num
  · have : (FloatOps.uitofp .f32 1#1 : Ideal .f32) = ((1 : ℝ) : EReal) := by simp [FloatOps.uitofp]
    rw [this, EReal.coe_lt_coe_iff]
    norm_num

/-- The same, as a comparison. -/
theorem half_cmp (b : BitVec 1) : Ideal.cmp .ogt (FloatOps.uitofp .f32 b : Ideal .f32) (Ideal.ofBits .f32 0x3F000000#32) = b := by
  have h : Ideal.cmp .ogt (FloatOps.uitofp .f32 b : Ideal .f32) (Ideal.ofBits .f32 0x3F000000#32)
      = BitVec.ofBool (decide ((Ideal.ofBits .f32 0x3F000000#32 : EReal) < (FloatOps.uitofp .f32 b : Ideal .f32))) := rfl
  rw [h, show decide ((Ideal.ofBits .f32 0x3F000000#32 : EReal) < (FloatOps.uitofp .f32 b : Ideal .f32)) = decide (b = 1#1) from decide_eq_decide.mpr (half_lt b)]
  rcases BitVec.eq_zero_or_eq_one b with rfl | rfl <;> simp

/-- The kernel's test for some background row. -/
theorem any_iff {n : ℕ} (f : Fin n → BitVec 1) (hb : FVec Ideal S1 .f32)
    (h : hb (ix1 0) = Finset.univ.fold max (Ideal.ofBits .f32 0xFF800000#32) fun r => (FloatOps.uitofp .f32 (f r) : Ideal .f32)) :
    Step.Some1 (F := Ideal) hb ↔ Finset.univ.fold IntOp.ori 0#1 f = 1#1 := by
  have h1 : Step.Some1 (F := Ideal) hb ↔ (Ideal.ofBits .f32 0x3F000000#32 : EReal) < hb (ix1 0) := by
    have e : Scalar.cmpf (F := Ideal) .ogt (hb (ix1 0)) (Scalar.ofBits .f32 0x3F000000#32)
        = BitVec.ofBool (decide ((Ideal.ofBits .f32 0x3F000000#32 : EReal) < hb (ix1 0))) := rfl
    unfold Step.Some1
    rw [e]
    by_cases hc : (Ideal.ofBits .f32 0x3F000000#32 : EReal) < hb (ix1 0)
    · simp only [hc, decide_true]; decide
    · simp only [hc, decide_false]; decide
  rw [h1, h, Finset.lt_fold_max, fold_or]
  simp only [half_lt, ninf, not_lt_bot, false_or]

/-- The kernel's choice between a distance and plus infinity, where some row is background. -/
theorem select_ok (b f : BitVec 1) (x y : EReal) : Scalar.select (IntOp.xori f b) x y = if Ok 1#1 b f then x else y := by
  rcases BitVec.eq_zero_or_eq_one b with rfl | rfl <;> rcases BitVec.eq_zero_or_eq_one f with rfl | rfl <;> simp [Scalar.select, IntOp.xori]

/-- A place of the first noise block, in the whole of it. -/
theorem place1 (t r j : ℕ) (ht : t < 16) (hr : r < 1024) (hj : j < 1024) :
    BitVec.ofNat 32 r * 1024#32 + BitVec.ofNat 32 j + (270669613#32 + BitVec.ofNat 32 t * 1048576#32)
      = BitVec.ofNat 32 (1024 * t + r) * 1024#32 + BitVec.ofNat 32 j + 270669613#32 := by
  simp only [← BitVec.ofNat_add, ← BitVec.ofNat_mul]
  congr 1
  omega

/-- A place of the second noise block, in the whole of it. -/
theorem place2 (t r j : ℕ) (ht : t < 16) (hr : r < 1024) (hj : j < 64) :
    BitVec.ofNat 32 r * 64#32 + BitVec.ofNat 32 j + (2916123636#32 + BitVec.ofNat 32 t * 65536#32)
      = BitVec.ofNat 32 (1024 * t + r) * 64#32 + BitVec.ofNat 32 j + 2916123636#32 := by
  simp only [← BitVec.ofNat_add, ← BitVec.ofNat_mul]
  congr 1
  omega

variable (m : (ℓ : Loc nD τ sig) → Buf (Elt Ideal) ℓ) (c : Dev nD)
variable (U : Valuation Cert.ReferenceIdeal.τ Cert.ReferenceIdeal.sig (Elt Ideal))

/-- The reference's places in the first noise block. -/
theorem v51_at (r : Fin 16384) (j : Fin 1024) :
    Cert.ReferenceIdeal.Value.res_main_v51 U (ix2 r j) = BitVec.ofNat 32 r.val * 1024#32 + BitVec.ofNat 32 j.val + 270669613#32 := by
  unfold Cert.ReferenceIdeal.Value.res_main_v51; pointwise; rfl

/-- The reference's places in the second noise block. -/
theorem v305_at (r : Fin 16384) (j : Fin 64) :
    Cert.ReferenceIdeal.Value.res_main_v305 U (ix2 r j) = BitVec.ofNat 32 r.val * 64#32 + BitVec.ofNat 32 j.val + 2916123636#32 := by
  unfold Cert.ReferenceIdeal.Value.res_main_v305; pointwise; rfl

variable (h0 : (U (Proc.devRef .tc Cert.ReferenceIdeal.main_arg0) : S16x1024x512.Idx → EReal) = m ((c.tc : Thread nD τ).loc main_arg0))
variable (h1 : (U (Proc.devRef .tc Cert.ReferenceIdeal.main_arg1) : S16x1024.Idx → BitVec 1) = m ((c.tc : Thread nD τ).loc main_arg1))
variable (h2 : (U (Proc.devRef .tc Cert.ReferenceIdeal.main_arg2) : S1024x256.Idx → EReal) = m ((c.tc : Thread nD τ).loc main_arg2))
variable (h3 : (U (Proc.devRef .tc Cert.ReferenceIdeal.main_arg3) : S64x256.Idx → EReal) = m ((c.tc : Thread nD τ).loc main_arg3))

include h0 in
/-- The rows are the reference's. -/
theorem rows_eq : (rows (m ((c.tc : Thread nD τ).loc main_arg0)) : S16384x512.Idx → EReal) = Cert.ReferenceIdeal.Value.res_main_v0 U :=
  congrArg rows h0.symm

include h1 in
/-- The rows' validity is the reference's. -/
theorem vals_eq : (vals (m ((c.tc : Thread nD τ).loc main_arg1)) : S16384.Idx → EReal) = Cert.ReferenceIdeal.Value.res_main_v265 U :=
  congrArg vals h1.symm

include h0 in
theorem x_at (t : Fin cfg0.N) (r : Fin 1024) (k : Fin 512) : ((ins m c t).x (ix2 r k) : EReal) = X U (row t r) k :=
  (rd0 c (V m c main_v0) t r k).trans (congrFun ((v0_eq m c).trans (rows_eq m c U h0)) _)

include h2 in
theorem ws_at (t : Fin cfg0.N) (j : Fin 1024) (k : Fin 256) : ((ins m c t).ws (ix2 j k) : EReal) = W1 U j k :=
  (rd1 c (V m c main_arg2) t j k).trans (congrFun ((V_main_arg2 m c).trans h2.symm) _)

include h3 in
theorem wc_at (t : Fin cfg0.N) (j : Fin 64) (k : Fin 256) : ((ins m c t).wc (ix2 j k) : EReal) = W2 U j k :=
  (rd2 c (V m c main_arg3) t j k).trans (congrFun ((V_main_arg3 m c).trans h3.symm) _)

theorem ps_at (t : Fin cfg0.N) (r j : Fin 1024) : ((ins m c t).ps (ix2 r j) : BitVec 32) = BitVec.ofNat 32 r.val * 1024#32 + BitVec.ofNat 32 j.val :=
  ((rd3 c (V m c main_call0_v25) t r j).trans (congrFun (ps_eq m c) _)).trans (posS_at r j)

theorem pc_at (t : Fin cfg0.N) (r : Fin 1024) (j : Fin 64) : ((ins m c t).pc (ix2 r j) : BitVec 32) = BitVec.ofNat 32 r.val * 64#32 + BitVec.ofNat 32 j.val :=
  ((rd4 c (V m c main_call0_v34) t r j).trans (congrFun (pc_eq m c) _)).trans (posC_at r j)

include h0 in
theorem x2s_at (t : Fin cfg0.N) (r : Fin 1024) : (iblk m c 5 t (ix1 r : S1024.Idx) : EReal) = ∑ k : Fin 256, X1 U (row t r) k * X1 U (row t r) k :=
  ((rd5 c (V m c main_call0_v2) t r).trans (congrFun ((x2s_eq m c).trans (congrArg sqA (rows_eq m c U h0))) _)).trans (sqA_at _ _)

include h0 in
theorem x2c_at (t : Fin cfg0.N) (r : Fin 1024) : ((ins m c t).x2c (ix1 r) : EReal) = ∑ k : Fin 256, X2 U (row t r) k * X2 U (row t r) k :=
  ((rd6 c (V m c main_call0_v5) t r).trans (congrFun ((x2c_eq m c).trans (congrArg sqB (rows_eq m c U h0))) _)).trans (sqB_at _ _)

include h2 in
theorem w2s_at (t : Fin cfg0.N) (j : Fin 1024) : (iblk m c 7 t (ix1 j : S1024.Idx) : EReal) = ∑ k : Fin 256, W1 U j k * W1 U j k :=
  ((rd7 c (V m c main_call0_v7) t j).trans (congrFun ((w2s_eq m c).trans (congrArg sqS h2.symm)) _)).trans (sqS_at _ _)

include h3 in
theorem w2c_at (t : Fin cfg0.N) (j : Fin 64) : ((ins m c t).w2c (ix1 j) : EReal) = ∑ k : Fin 256, W2 U j k * W2 U j k :=
  ((rd8 c (V m c main_call0_v9) t j).trans (congrFun ((w2c_eq m c).trans (congrArg sqC h3.symm)) _)).trans (sqC_at _ _)

include h0 in
theorem bg_at (t : Fin cfg0.N) (r : Fin 1024) : (iblk m c 9 t (ix1 r : S1024.Idx) : EReal) = (FloatOps.uitofp .f32 (bg U (row t r)) : Ideal .f32) :=
  ((rd9 c (V m c main_call0_v14) t r).trans (congrFun ((bg_eq m c).trans (congrArg back (rows_eq m c U h0))) _)).trans (back_at _ _)

include h1 in
theorem m_at (t : Fin cfg0.N) (r : Fin 1024) : ((ins m c t).m (ix1 r) : EReal) = mk U (row t r) :=
  (rd10 c (V m c main_v2) t r).trans (congrFun ((m_eq m c).trans (vals_eq m c U h1)) _)

include h0 in
theorem hb_at (t : Fin cfg0.N) : (iblk m c 11 t (ix1 0 : S1.Idx) : EReal)
    = Finset.univ.fold max (Ideal.ofBits .f32 0xFF800000#32) fun r : Fin 16384 => (FloatOps.uitofp .f32 (bg U r) : Ideal .f32) := by
  refine ((rd11 c (V m c main_call0_v16) t 0).trans (congrFun ((hb_eq m c).trans (congrArg (fun x => anyB (back x)) (rows_eq m c U h0))) _)).trans ?_
  rw [anyB_at]
  simp only [back_at]

include h0 h2 in
/-- The distances of the first table, plus infinity where the code is not allowed. -/
theorem d_at (t : Fin cfg0.N) (r j : Fin 1024) : ((ins m c t).d (ix2 r j) : EReal)
    = if Ok (some1 U) (bg U (row t r)) (fg j) then dist (X1 U) (W1 U) (row t r) j else ⊤ := by
  have h12 : (k0_pay12 (iblk m c 0 t) (iblk m c 1 t) (iblk m c 5 t) (iblk m c 7 t) (ix2 r j) : EReal) = dist (X1 U) (W1 U) (row t r) j := by
    rw [KerRead.pay12_at]
    simp only [KerRead.pay9_at]
    have hx := x_at m c U h0 t r
    have hw := ws_at m c U h2 t j
    dsimp only [ins] at hx hw
    simp only [hx, hw, x2s_at m c U h0 t r, w2s_at m c U h2 t j]
    rfl
  dsimp only [ins]
  unfold Step.distS
  have hS := any_iff (bg U) (iblk m c 11 t) (hb_at m c U h0 t)
  by_cases hs : some1 U = 1#1
  · rw [if_pos (hS.mpr hs), KerRead.pay13_at, h12, bg_at m c U h0 t r, half_cmp, pinf]
    rw [hs]
    exact select_ok _ _ _ _
  · rw [if_neg (fun h => hs (hS.mp h)), h12]
    rw [if_pos (Or.inl (by rcases BitVec.eq_zero_or_eq_one (some1 U) with h | h <;> [exact h; exact absurd h hs]))]

theorem coords0 (t : Fin cfg0.N) : ((grid0.coords t) 0).val = t.val := by
  rw [Pipeline.Grid.coords_val (S := 1) (B := 16) t 0 (by decide) rfl]
  have := t_lt t
  omega

include h0 h2 in
/-- The kernel's scores of the first table are the reference's. -/
theorem scS_eq (t : Fin cfg0.N) (r : Fin 1024) : scS (grid0.coords t) (ins m c t) r = sc1 U (row t r) := by
  funext j
  unfold scS sc1 score
  rw [KerRead.pay14_at, ps_at, coords0, d_at m c U h0 h2, v51_at]
  rw [show (row t r).val = 1024 * t.val + r.val from rfl, ← place1 t.val r.val j.val (t_lt t) r.isLt j.isLt]
  split
  · rfl
  · exact (sub_eq_add_neg _ _).trans (by rw [EReal.neg_top, EReal.add_bot])

include h0 h3 in
/-- The kernel's scores of the second table are the reference's. -/
theorem scC_eq (t : Fin cfg0.N) (r : Fin 1024) : scC (grid0.coords t) (ins m c t) r = sc2 U (row t r) := by
  funext j
  unfold scC sc2
  have hd : (Step.distC (ins m c t) (ix2 r j) : EReal) = dist (X2 U) (W2 U) (row t r) j := by
    unfold Step.distC
    rw [KerRead.pay59_at]
    simp only [KerRead.pay10_at, x_at m c U h0, wc_at m c U h3, x2c_at m c U h0, w2c_at m c U h3]
    rfl
  rw [KerRead.pay60_at, pc_at, hd, v305_at, show Step.num (grid0.coords t) = BitVec.ofNat 32 t.val from congrArg _ (coords0 t)]
  rw [show (row t r).val = 1024 * t.val + r.val from rfl, ← place2 t.val r.val j.val (t_lt t) r.isLt j.isLt]

end Cert.Bridge

end
-- ==== Proof.Accum.lean ====
/- What the kernel accumulates over its grid, in the reference's terms. -/
module

public import proofs.«01_k».proof.Proof.Bridge

@[expose] public section

set_option maxRecDepth 16384

noncomputable section

namespace Cert.Accum

open Idealize.ShloMosaic Idealize.ShloMosaic.TcCoe Idealize.SL.Sem
open Cert.KernelIdeal Cert.KernelIdeal.Gen Cert.KernelIdeal.Whole Cert.Math Cert.KerHost Cert.KerRow Cert.RefRow Cert.Bridge

/-- A function of the rows, zero past them. -/
def ext (g : Fin 16384 → EReal) (n : ℕ) : EReal := if h : n < 16384 then g ⟨n, h⟩ else 0

/-- The sum of a function over the rows of a block. -/
def blk (g : Fin 16384 → EReal) (t : ℕ) : EReal := ∑ r ∈ Finset.range 1024, ext g (1024 * t + r)

theorem blk_row (g : Fin 16384 → EReal) (t : Fin cfg0.N) : blk g t.val = ∑ r : Fin 1024, g (row t r) := by
  unfold blk
  rw [Finset.sum_range]
  refine Finset.sum_congr rfl fun r _ => ?_
  have := t_lt t
  unfold ext
  rw [dif_pos (show 1024 * t.val + r.val < 16384 by omega)]
  rfl

/-- The blocks' sums together are the sum over all rows. -/
theorem sum_blk (g : Fin 16384 → EReal) : ∑ t ∈ Finset.range 16, blk g t = ∑ r : Fin 16384, g r := by
  have h : ∀ k : ℕ, ∑ t ∈ Finset.range k, blk g t = ∑ n ∈ Finset.range (1024 * k), ext g n := by
    intro k
    induction k with
    | zero => simp
    | succ k ih => rw [Finset.sum_range_succ, ih, Nat.mul_succ, Finset.sum_range_add]; rfl
  rw [h 16, Finset.sum_range]
  refine Finset.sum_congr rfl fun r _ => ?_
  unfold ext
  exact dif_pos r.isLt

/-- A sum over 512 places, in two halves. -/
theorem sum_halves (f : Fin 512 → EReal) : ∑ k : Fin 512, f k = (∑ k : Fin 256, f ⟨k.val, by omega⟩) + ∑ k : Fin 256, f ⟨256 + k.val, by omega⟩ :=
  Fin.sum_univ_add (a := 256) (b := 256) f

variable (m : (ℓ : Loc nD τ sig) → Buf (Elt Ideal) ℓ) (c : Dev nD)

/-- The accumulators after a point, but for the last point's closing. -/
def pre : (n : ℕ) → n < cfg0.N → Step.Acc Ideal
  | 0, h => Step.more (grid0.coords ⟨0, h⟩) (ins m c ⟨0, h⟩) ⟨k0_pay6 (F := Ideal), k0_pay7 (F := Ideal), Step.zero4 (F := Ideal)⟩
  | n + 1, h => Step.more (grid0.coords ⟨n + 1, h⟩) (ins m c ⟨n + 1, h⟩) (pre n (Nat.lt_of_succ_lt h))

theorem acc_pre : ∀ (n : ℕ) (h : n < cfg0.N), acc m c n h = if n = 15 then Step.close (pre m c n h) else pre m c n h
  | 0, h => by
    have hF : ¬Step.Final (grid0.coords ⟨0, h⟩) := fun e => by have e' : (0 : ℕ) = 15 := (final_iff ⟨0, h⟩).mp e; omega
    have hI : Step.First (grid0.coords ⟨0, h⟩) := (first_iff ⟨0, h⟩).mpr rfl
    unfold acc pre Step.next Step.start
    rw [if_neg hF, if_pos hI, if_neg (by decide)]
  | n + 1, h => by
    have hn : n + 1 < 16 := t_lt ⟨n + 1, h⟩
    have ih := acc_pre n (Nat.lt_of_succ_lt h)
    rw [if_neg (by omega)] at ih
    have hI : ¬Step.First (grid0.coords ⟨n + 1, h⟩) := fun e => absurd ((first_iff ⟨n + 1, h⟩).mp e) (Nat.succ_ne_zero n)
    have hF : Step.Final (grid0.coords ⟨n + 1, h⟩) ↔ n + 1 = 15 := final_iff ⟨n + 1, h⟩
    unfold acc pre Step.next Step.start
    rw [if_neg hI, ih]
    by_cases h15 : n + 1 = 15
    · rw [if_pos h15, if_pos (hF.mpr h15)]
    · rw [if_neg h15, if_neg (fun e => h15 (hF.mp e))]

variable (U : Valuation Cert.ReferenceIdeal.τ Cert.ReferenceIdeal.sig (Elt Ideal))

variable (h0 : (U (Proc.devRef .tc Cert.ReferenceIdeal.main_arg0) : S16x1024x512.Idx → EReal) = m ((c.tc : Thread nD τ).loc main_arg0))
variable (h1 : (U (Proc.devRef .tc Cert.ReferenceIdeal.main_arg1) : S16x1024.Idx → BitVec 1) = m ((c.tc : Thread nD τ).loc main_arg1))
variable (h2 : (U (Proc.devRef .tc Cert.ReferenceIdeal.main_arg2) : S1024x256.Idx → EReal) = m ((c.tc : Thread nD τ).loc main_arg2))
variable (h3 : (U (Proc.devRef .tc Cert.ReferenceIdeal.main_arg3) : S64x256.Idx → EReal) = m ((c.tc : Thread nD τ).loc main_arg3))

include h0 h1 h2 in
/-- A point's counts of the first table. -/
theorem step_cs (t : Fin cfg0.N) (a : Vec Ideal S1024 .f32) (j : Fin 1024) :
    (Step.cntS (grid0.coords t) (ins m c t) a (ix1 j) : EReal) = (a (ix1 j) : EReal) + blk (fun R => mk U R * one (arg (sc1 U R)) j.val) t.val := by
  rw [cntS_at, blk_row]
  simp only [m_at m c U h1, scS_eq m c U h0 h2]

include h0 h1 h3 in
/-- A point's counts of the second table. -/
theorem step_cc (t : Fin cfg0.N) (a : Vec Ideal S128 .f32) (j : Fin 128) :
    (Step.cntC (grid0.coords t) (ins m c t) a (ix1 j) : EReal) = (a (ix1 j) : EReal) + blk (fun R => mk U R * one (arg (sc2 U R)) j.val) t.val := by
  rw [cntC_at, blk_row]
  simp only [m_at m c U h1, scC_eq m c U h0 h3]

include h1 in
/-- A point's number of valid rows. -/
theorem step_v (t : Fin cfg0.N) (v : EReal) : (Step.valid (ins m c t) v : EReal) = v + blk (mk U) t.val := by
  rw [valid_eq, blk_row]
  simp only [m_at m c U h1]

include h0 h2 in
theorem qS_ref (t : Fin cfg0.N) (r : Fin 1024) (k : Fin 256) : (Step.qS (grid0.coords t) (ins m c t) (ix2 r k) : EReal) = qs U (row t r) ⟨k.val, by omega⟩ := by
  rw [qS_at]
  unfold qs
  rw [dif_pos k.isLt]
  simp only [ws_at m c U h2, scS_eq m c U h0 h2]

include h0 h3 in
theorem qC_ref (t : Fin cfg0.N) (r : Fin 1024) (k : Fin 256) : (Step.qC (grid0.coords t) (ins m c t) (ix2 r k) : EReal) = qs U (row t r) ⟨256 + k.val, by omega⟩ := by
  rw [qC_at]
  unfold qs
  rw [dif_neg (by simp)]
  simp only [wc_at m c U h3, scC_eq m c U h0 h3, Nat.add_sub_cancel_left]

/-- A row's squared difference. -/
def sqd (R : Fin 16384) : EReal := ∑ k : Fin 512, (qs U R k - X U R k) * (qs U R k - X U R k)

include h0 h2 h3 in
/-- A point's loss. -/
theorem step_l (t : Fin cfg0.N) (v : EReal) : (Step.loss (grid0.coords t) (ins m c t) v : EReal) = v + blk (sqd U) t.val := by
  rw [loss_eq, blk_row]
  simp only [qS_ref m c U h0 h2, qC_ref m c U h0 h3, x_at m c U h0]
  rw [← Finset.sum_add_distrib]
  refine congrArg (fun z => v + z) (Finset.sum_congr rfl fun r _ => ?_)
  unfold sqd
  rw [sum_halves]

include h0 h2 h3 in
/-- A point's chosen vectors. -/
theorem q_ref (t : Fin cfg0.N) (r : Fin 1024) (k : Fin 512) : (Step.q (grid0.coords t) (ins m c t) (ix2 r k) : EReal) = qs U (row t r) k := by
  rw [q_at]
  unfold qs
  simp only [ws_at m c U h2, wc_at m c U h3, scS_eq m c U h0 h2, scC_eq m c U h0 h3]

/-- The statistics after a point, cell by cell. -/
theorem stat0 (i : grid0.Coords) (I : Step.Ins Ideal) (st : Vec Ideal S4 .f32) : Step.at4 (Step.stat i I st) 0 = Step.loss i I (Step.at4 st 0) := rfl
theorem stat3 (i : grid0.Coords) (I : Step.Ins Ideal) (st : Vec Ideal S4 .f32) : Step.at4 (Step.stat i I st) 3 = Step.valid I (Step.at4 st 3) := rfl

theorem zero6 (j : Fin 1024) : (k0_pay6 (F := Ideal) (ix1 j) : EReal) = 0 := zero_bits
theorem zero7 (j : Fin 128) : (k0_pay7 (F := Ideal) (ix1 j) : EReal) = 0 := zero_bits
theorem zero4 (k : Fin 4) : (Step.at4 (Step.zero4 (F := Ideal)) k : EReal) = 0 := zero_bits

include h0 h1 h2 in
/-- The counts of the first table. -/
theorem pre_cs (j : Fin 1024) : ∀ (n : ℕ) (h : n < cfg0.N),
    ((pre m c n h).cs (ix1 j) : EReal) = ∑ t ∈ Finset.range (n + 1), blk (fun R => mk U R * one (arg (sc1 U R)) j.val) t
  | 0, h => by
    unfold pre Step.more
    dsimp only
    rw [step_cs m c U h0 h1 h2, zero6, Finset.sum_range_one, zero_add]
  | n + 1, h => by
    have ih := pre_cs j n (Nat.lt_of_succ_lt h)
    unfold pre Step.more
    dsimp only
    rw [step_cs m c U h0 h1 h2, ih, Finset.sum_range_succ _ (n + 1)]

include h0 h1 h3 in
/-- The counts of the second table. -/
theorem pre_cc (j : Fin 128) : ∀ (n : ℕ) (h : n < cfg0.N),
    ((pre m c n h).cc (ix1 j) : EReal) = ∑ t ∈ Finset.range (n + 1), blk (fun R => mk U R * one (arg (sc2 U R)) j.val) t
  | 0, h => by
    unfold pre Step.more
    dsimp only
    rw [step_cc m c U h0 h1 h3, zero7, Finset.sum_range_one, zero_add]
  | n + 1, h => by
    have ih := pre_cc j n (Nat.lt_of_succ_lt h)
    unfold pre Step.more
    dsimp only
    rw [step_cc m c U h0 h1 h3, ih, Finset.sum_range_succ _ (n + 1)]

include h1 in
/-- The number of valid rows. -/
theorem pre_v : ∀ (n : ℕ) (h : n < cfg0.N), (Step.at4 (pre m c n h).st 3 : EReal) = ∑ t ∈ Finset.range (n + 1), blk (mk U) t
  | 0, h => by
    unfold pre Step.more
    dsimp only
    rw [stat3, step_v m c U h1, zero4, Finset.sum_range_one, zero_add]
  | n + 1, h => by
    have ih := pre_v n (Nat.lt_of_succ_lt h)
    unfold pre Step.more
    dsimp only
    rw [stat3, step_v m c U h1, ih, Finset.sum_range_succ _ (n + 1)]

include h0 h2 h3 in
/-- The sum of the squared differences. -/
theorem pre_l : ∀ (n : ℕ) (h : n < cfg0.N), (Step.at4 (pre m c n h).st 0 : EReal) = ∑ t ∈ Finset.range (n + 1), blk (sqd U) t
  | 0, h => by
    unfold pre Step.more
    dsimp only
    rw [stat0, step_l m c U h0 h2 h3, zero4, Finset.sum_range_one, zero_add]
  | n + 1, h => by
    have ih := pre_l n (Nat.lt_of_succ_lt h)
    unfold pre Step.more
    dsimp only
    rw [stat0, step_l m c U h0 h2 h3, ih, Finset.sum_range_succ _ (n + 1)]

/-- What is accumulated over the whole grid. -/
theorem pos15 : 15 < cfg0.N := lt_of_lt_of_eq (by decide : 15 < 16) (show 16 = cfg0.N from N_0.symm)

include h0 h1 h2 in
theorem all_cs (j : Fin 1024) : ((pre m c 15 pos15).cs (ix1 j) : EReal) = ∑ R : Fin 16384, mk U R * one (arg (sc1 U R)) j.val :=
  (pre_cs m c U h0 h1 h2 j 15 pos15).trans (sum_blk _)
include h0 h1 h3 in
theorem all_cc (j : Fin 128) : ((pre m c 15 pos15).cc (ix1 j) : EReal) = ∑ R : Fin 16384, mk U R * one (arg (sc2 U R)) j.val :=
  (pre_cc m c U h0 h1 h3 j 15 pos15).trans (sum_blk _)
include h1 in
theorem all_v : (Step.at4 (pre m c 15 pos15).st 3 : EReal) = ∑ R : Fin 16384, mk U R :=
  (pre_v m c U h1 15 pos15).trans (sum_blk _)
include h0 h2 h3 in
theorem all_l : (Step.at4 (pre m c 15 pos15).st 0 : EReal) = ∑ R : Fin 16384, sqd U R :=
  (pre_l m c U h0 h2 h3 15 pos15).trans (sum_blk _)

end Cert.Accum

end
-- ==== Proof.Out.lean ====
/- The arrays the kernel leaves, in the reference's terms. -/
module

public import proofs.«01_k».proof.Proof.Accum
public import Idealize.ShloMosaic.Lib.Pipeline.ValueKit

@[expose] public section

set_option maxRecDepth 16384

noncomputable section

namespace Cert.Out

open Idealize.ShloMosaic Idealize.ShloMosaic.TcCoe Idealize.SL.Sem
open Cert.KernelIdeal Cert.KernelIdeal.Gen Cert.KernelIdeal.Whole Cert.Math Cert.KerHost Cert.KerRow Cert.RefRow Cert.Bridge Cert.Accum

variable (m : (ℓ : Loc nD τ sig) → Buf (Elt Ideal) ℓ) (c : Dev nD)

/-! The index maps of the outputs. -/
theorem idx12 : ∀ t : Fin cfg0.N, win0_12.index t = ![t.val] := (by decide +kernel : ∀ t : Fin grid0.N, win0_12.index t = ![t.val])
theorem idx13 : ∀ t : Fin cfg0.N, win0_13.index t = ![t.val] := (by decide +kernel : ∀ t : Fin grid0.N, win0_13.index t = ![t.val])
theorem idx14 : ∀ t : Fin cfg0.N, win0_14.index t = ![t.val, 0] := (by decide +kernel : ∀ t : Fin grid0.N, win0_14.index t = ![t.val, 0])

theorem rd12 (A : Buf (Elt Ideal) ((c.tc : Thread nD τ).loc (Pipeline.arrRef spec0 12))) (t : Fin cfg0.N) (r : Fin 1024) :
    (((cfg0.win 12).blk t).view.read (Elt Ideal) A (ix1 r : S1024.Idx) : BitVec 32) = (A (ix1 (row t r) : S16384.Idx) : BitVec 32) := by
  blk_ext [row, idx12 t]

theorem rd13 (A : Buf (Elt Ideal) ((c.tc : Thread nD τ).loc (Pipeline.arrRef spec0 13))) (t : Fin cfg0.N) (r : Fin 1024) :
    (((cfg0.win 13).blk t).view.read (Elt Ideal) A (ix1 r : S1024.Idx) : BitVec 32) = (A (ix1 (row t r) : S16384.Idx) : BitVec 32) := by
  blk_ext [row, idx13 t]

theorem rd14 (A : Buf (Elt Ideal) ((c.tc : Thread nD τ).loc (Pipeline.arrRef spec0 14))) (t : Fin cfg0.N) (r : Fin 1024) (k : Fin 512) :
    (((cfg0.win 14).blk t).view.read (Elt Ideal) A (ix2 r k : S1024x512.Idx) : EReal) = (A (ix2 (row t r) k : S16384x512.Idx) : EReal) := by
  blk_ext [row, idx14 t]

theorem eta2 (y : S1024x512.Idx) : y = ix2 (y 0) (y 1) := by
  funext a
  fin_cases a <;> rfl

theorem inj : Function.Injective (Pipeline.arrRef spec0) := by
  intro a b
  revert a b
  decide

theorem arr12 (G : S16384.Idx → BitVec 32) (h : ∀ (t : Fin cfg0.N) (r : Fin 1024), Step.idxS (grid0.coords t) (ins m c t) (ix1 r) = G (ix1 (row t r))) :
    (dats m 0 c).arrAt 12 cfg0.N = G := by
  refine (dats m 0 c).arrAt_eq_of_covers 12 _ (by decide +kernel) fun t hf y => ?_
  refine (cast_eq _ _).trans ?_
  refine (congrFun (after_12 m c t) _).trans ?_
  have hy : y = (ix1 (y 0) : S1024.Idx) := eq_ix1 (n0 := 1024) y
  exact (congrArg (Step.idxS (grid0.coords t) (ins m c t)) (eq_ix1 (n0 := 1024) _)).trans ((h t _).trans ((rd12 c G t (y 0)).symm.trans (congrArg (fun z => ((cfg0.win 12).blk t).view.read (Elt Ideal) G z) hy.symm)))

theorem arr13 (G : S16384.Idx → BitVec 32) (h : ∀ (t : Fin cfg0.N) (r : Fin 1024), Step.idxC (grid0.coords t) (ins m c t) (ix1 r) = G (ix1 (row t r))) :
    (dats m 0 c).arrAt 13 cfg0.N = G := by
  refine (dats m 0 c).arrAt_eq_of_covers 13 _ (by decide +kernel) fun t hf y => ?_
  refine (cast_eq _ _).trans ?_
  refine (congrFun (after_13 m c t) _).trans ?_
  have hy : y = (ix1 (y 0) : S1024.Idx) := eq_ix1 (n0 := 1024) y
  exact (congrArg (Step.idxC (grid0.coords t) (ins m c t)) (eq_ix1 (n0 := 1024) _)).trans ((h t _).trans ((rd13 c G t (y 0)).symm.trans (congrArg (fun z => ((cfg0.win 13).blk t).view.read (Elt Ideal) G z) hy.symm)))

theorem arr14 (G : S16384x512.Idx → EReal) (h : ∀ (t : Fin cfg0.N) (r : Fin 1024) (k : Fin 512), Step.q (grid0.coords t) (ins m c t) (ix2 r k) = G (ix2 (row t r) k)) :
    (dats m 0 c).arrAt 14 cfg0.N = G := by
  refine (dats m 0 c).arrAt_eq_of_covers 14 _ (by decide +kernel) fun t hf y => ?_
  blk_simp
  rw [after_14]
  have hy := eta2 y
  exact (congrArg _ hy).trans ((h t _ _).trans ((rd14 c G t (y 0) (y 1)).symm.trans (congrArg (fun z => ((cfg0.win 14).blk t).view.read (Elt Ideal) G z) hy.symm)))

/-- The statistics' array is what the last point leaves. -/
theorem arr17 : (dats m 0 c).arrAt 17 cfg0.N = (acc m c 15 pos15).st := by
  refine (dats m 0 c).arrAt_eq_of_after_last 17 t0_15 (by decide +kernel) _ fun j => ?_
  blk_simp
  rw [after_17]
  rfl

/-- A cell of four, as an array without axes. -/
theorem cell0 (a : S4.Idx → EReal) : (shapeCast S_ (extractStridedSlice S1 ![0] a slices_S4_S1_0) shapeCasts_S1_S_ : S_.Idx → EReal) = fun _ => a (ix1 0) := by
  funext y
  pointwise
theorem cell1 (a : S4.Idx → EReal) : (shapeCast S_ (extractStridedSlice S1 ![1] a slices_S4_S1_1) shapeCasts_S1_S_ : S_.Idx → EReal) = fun _ => a (ix1 1) := by
  funext y
  pointwise
theorem cell2 (a : S4.Idx → EReal) : (shapeCast S_ (extractStridedSlice S1 ![2] a slices_S4_S1_2) shapeCasts_S1_S_ : S_.Idx → EReal) = fun _ => a (ix1 2) := by
  funext y
  pointwise

/-! What the host makes of the arrays. -/
theorem tail8 : (Pipeline.afterTail₀ cfgs (dats m) 0 (V0 m) [hostOps1] c main_v8 : S_.Idx → EReal) = fun _ => ((dats m 0 c).arrAt 17 cfg0.N : S4.Idx → EReal) (ix1 1) := by
  unfold Pipeline.afterTail₀
  simp only [hostOps1, List.flatten_cons, List.flatten_nil, List.append_nil, List.cons_append, List.nil_append]
  after_results_simp
  have h := Pipeline.withArrays_arr spec0 inj c (V0 m c) (fun w => (dats m 0 c).arrAt w cfg0.N) 17
  refine (congrArg (fun a : S4.Idx → EReal => shapeCast S_ (extractStridedSlice S1 ![1] a slices_S4_S1_1) shapeCasts_S1_S_) h).trans ?_
  exact cell1 _

theorem tail10 : (Pipeline.afterTail₀ cfgs (dats m) 0 (V0 m) [hostOps1] c main_v10 : S_.Idx → EReal) = fun _ => ((dats m 0 c).arrAt 17 cfg0.N : S4.Idx → EReal) (ix1 2) := by
  unfold Pipeline.afterTail₀
  simp only [hostOps1, List.flatten_cons, List.flatten_nil, List.append_nil, List.cons_append, List.nil_append]
  after_results_simp
  have h := Pipeline.withArrays_arr spec0 inj c (V0 m c) (fun w => (dats m 0 c).arrAt w cfg0.N) 17
  refine (congrArg (fun a : S4.Idx → EReal => shapeCast S_ (extractStridedSlice S1 ![2] a slices_S4_S1_2) shapeCasts_S1_S_) h).trans ?_
  exact cell2 _

theorem tail4 : (Pipeline.afterTail₀ cfgs (dats m) 0 (V0 m) [hostOps1] c main_v4 : S16x1024x512.Idx → EReal)
    = shapeCast S16x1024x512 ((dats m 0 c).arrAt 14 cfg0.N) shapeCasts_S16384x512_S16x1024x512 := by
  unfold Pipeline.afterTail₀
  simp only [hostOps1, List.flatten_cons, List.flatten_nil, List.append_nil, List.cons_append, List.nil_append]
  after_results_simp
  have h := Pipeline.withArrays_arr spec0 inj c (V0 m c) (fun w => (dats m 0 c).arrAt w cfg0.N) 14
  exact congrArg (fun a : S16384x512.Idx → EReal => shapeCast S16x1024x512 a shapeCasts_S16384x512_S16x1024x512) h

theorem tail6 : (Pipeline.afterTail₀ cfgs (dats m) 0 (V0 m) [hostOps1] c main_v6 : S_.Idx → EReal) = fun _ => ((dats m 0 c).arrAt 17 cfg0.N : S4.Idx → EReal) (ix1 0) := by
  unfold Pipeline.afterTail₀
  simp only [hostOps1, List.flatten_cons, List.flatten_nil, List.append_nil, List.cons_append, List.nil_append]
  after_results_simp
  have h := Pipeline.withArrays_arr spec0 inj c (V0 m c) (fun w => (dats m 0 c).arrAt w cfg0.N) 17
  refine (congrArg (fun a : S4.Idx → EReal => shapeCast S_ (extractStridedSlice S1 ![0] a slices_S4_S1_0) shapeCasts_S1_S_) h).trans ?_
  exact cell0 _

end Cert.Out

end
-- ==== Proof.Alg.lean ====
/- The kernel's six results are the reference's. -/
module

public import proofs.«01_k».proof.Proof.Out
public import proofs.«01_k».proof.Proof.KerAt
public import Idealize.ShloMosaic.Lib.IdealHost

@[expose] public section

set_option maxRecDepth 16384

noncomputable section

namespace Cert.Alg

open Idealize.ShloMosaic Idealize.ShloMosaic.TcCoe Idealize.SL.Sem
open Cert.KernelIdeal Cert.KernelIdeal.Gen Cert.KernelIdeal.Whole Cert.Math Cert.KerHost Cert.KerRow Cert.RefRow Cert.Bridge Cert.Accum Cert.Out

/-- The lesser of two numbers is at most each. -/
theorem minsi_le (a b : BitVec 32) : (IntOp.minsi a b).toInt ≤ a.toInt ∧ (IntOp.minsi a b).toInt ≤ b.toInt := by
  unfold IntOp.minsi
  split
  · rename_i h
    rw [BitVec.slt_iff_toInt_lt] at h
    omega
  · rename_i h
    rw [BitVec.slt_iff_toInt_lt] at h
    omega

/-- The least of some numbers is at most each of them. -/
theorem fold_le {ι : Type} (s : Finset ι) (f : ι → BitVec 32) (b : BitVec 32) (i : ι) (hi : i ∈ s) : (s.fold IntOp.minsi b f).toInt ≤ (f i).toInt := by
  classical
  induction s using Finset.induction_on with
  | empty => simp at hi
  | insert a s ha ih =>
    rw [Finset.fold_insert ha]
    rcases Finset.mem_insert.mp hi with h | h
    · subst h; exact (minsi_le _ _).1
    · exact (minsi_le _ _).2.trans (ih h)

/-- A row of 64 values has its first greatest place among them. -/
theorem arg_lt (z : Fin 64 → EReal) : (arg z).toInt < 64 := by
  obtain ⟨j, -, hj⟩ := Finset.exists_max_image Finset.univ z ⟨0, Finset.mem_univ _⟩
  have ht : z j = top z := (eq_top_iff z j).mpr fun i => hj i (Finset.mem_univ _)
  have hh : hit z j = 1#1 := by
    unfold hit
    rw [← ht]
    simp [Ideal.cmp]
  have h := fold_le Finset.univ (fun k : Fin 64 => Scalar.select (hit z k) (BitVec.ofNat 32 k.val) (BitVec.ofNat 32 64)) 2147483647#32 j (Finset.mem_univ _)
  have hs : Scalar.select (hit z j) (BitVec.ofNat 32 j.val) (BitVec.ofNat 32 64) = BitVec.ofNat 32 j.val := by
    rw [hh]; rfl
  have hv : (BitVec.ofNat 32 j.val).toInt = j.val := by
    have := j.isLt
    rw [BitVec.toInt_eq_toNat_cond, BitVec.toNat_ofNat]
    split <;> omega
  have := j.isLt
  unfold arg
  rw [hs, hv] at h
  omega

/-- No row of 64 values is at a place past them. -/
theorem one_far (z : Fin 64 → EReal) (j : ℕ) (h1 : 64 ≤ j) (h2 : j < 128) : one (arg z) j = 0 := by
  have h := arg_lt z
  unfold one Scalar.select IntOp.cmpi
  have hv : (BitVec.ofNat 32 j).toInt = j := by
    rw [BitVec.toInt_eq_toNat_cond, BitVec.toNat_ofNat]
    split <;> omega
  have hne : ¬ BitVec.ofNat 32 j = arg z := fun e => by
    rw [← e, hv] at h
    omega
  have hb : (BitVec.ofNat 32 j == arg z) = false := by simpa using hne
  simp [hb]

/-- The bits of 2²³. -/
theorem size_bits : (Ideal.ofBits .f32 0x4B000000#32 : EReal) = ((8388608 : ℝ) : EReal) := by
  simp [Ideal.ofBits, Ideal.ieee, -EReal.coe_mul]
/-- The bits of a quarter. -/
theorem quarter_bits : (Ideal.ofBits .f32 0x3E800000#32 : EReal) = ((1 / 4 : ℝ) : EReal) := by
  simp [Ideal.ofBits, Ideal.ieee, -EReal.coe_mul]
  norm_num
/-- The bits of 1.25 · 2⁻²³. -/
theorem scale_bits : (Ideal.ofBits .f32 0x34200000#32 : EReal) = ((5 / 4 / 8388608 : ℝ) : EReal) := by
  simp [Ideal.ofBits, Ideal.ieee, -EReal.coe_mul]
  norm_num

/-- The loss: one multiplication in the kernel, a mean and a quarter of the mean in the reference. -/
theorem loss_scale (T : EReal) (h : IsR T) : T * Ideal.ofBits .f32 0x34200000#32
    = Ideal.div T (Ideal.ofBits .f32 0x4B000000#32) + Ideal.ofBits .f32 0x3E800000#32 * Ideal.div T (Ideal.ofBits .f32 0x4B000000#32) := by
  obtain ⟨x, rfl⟩ := h
  rw [size_bits, quarter_bits, scale_bits, Ideal.div_coe (by norm_num), ← EReal.coe_mul, ← EReal.coe_mul, ← EReal.coe_mul, ← EReal.coe_add]
  congr 1
  ring

/-- The greater of a number and one is not zero. -/
theorem max_one_ne (v : EReal) : max v 1 ≠ 0 :=
  ((zero_lt_one (α := EReal)).trans_le (le_max_right v 1)).ne'

variable (m : (ℓ : Loc nD τ sig) → Buf (Elt Ideal) ℓ) (c : Dev nD)
variable (U : Valuation Cert.ReferenceIdeal.τ Cert.ReferenceIdeal.sig (Elt Ideal))
variable (hX : ∀ r k, IsR (X U r k)) (hW1 : ∀ j k, IsR (W1 U j k)) (hW2 : ∀ j k, IsR (W2 U j k))

/-- What the last point leaves of the statistics. -/
theorem st_last : (acc m c 15 pos15).st = Step.last (pre m c 15 pos15).st (pre m c 15 pos15).cs (pre m c 15 pos15).cc := by
  rw [acc_pre, if_pos rfl]
  rfl

theorem last0 (st : Vec Ideal S4 .f32) (cs : Vec Ideal S1024 .f32) (cc : Vec Ideal S128 .f32) :
    (Step.last st cs cc (ix1 0) : EReal) = k0_pay5 (F := Ideal) (Step.at4 st 0) := rfl
theorem last1 (st : Vec Ideal S4 .f32) (cs : Vec Ideal S1024 .f32) (cc : Vec Ideal S128 .f32) :
    (Step.last st cs cc (ix1 1) : EReal) = k0_pay3 (F := Ideal) (Step.at4 st 3) cs := rfl
theorem last2 (st : Vec Ideal S4 .f32) (cs : Vec Ideal S1024 .f32) (cc : Vec Ideal S128 .f32) :
    (Step.last st cs cc (ix1 2) : EReal) = k0_pay4 (F := Ideal) (Step.at4 st 3) cc := rfl

variable (h0 : (U (Proc.devRef .tc Cert.ReferenceIdeal.main_arg0) : S16x1024x512.Idx → EReal) = m ((c.tc : Thread nD τ).loc main_arg0))
variable (h1 : (U (Proc.devRef .tc Cert.ReferenceIdeal.main_arg1) : S16x1024.Idx → BitVec 1) = m ((c.tc : Thread nD τ).loc main_arg1))
variable (h2 : (U (Proc.devRef .tc Cert.ReferenceIdeal.main_arg2) : S1024x256.Idx → EReal) = m ((c.tc : Thread nD τ).loc main_arg2))
variable (h3 : (U (Proc.devRef .tc Cert.ReferenceIdeal.main_arg3) : S64x256.Idx → EReal) = m ((c.tc : Thread nD τ).loc main_arg3))

include h0 h1 h2 hX hW1 in
/-- The perplexity of the first table. -/
theorem cell_s : ((acc m c 15 pos15).st (ix1 1) : EReal) = RefRead.perpS (Cert.ReferenceIdeal.Value.res_main_v273 U) ix0 := by
  rw [st_last, last1, KerRead.pay3_at, RefRead.perpS_at, zero_sub]
  simp only [all_cs m c U h0 h1 h2, all_v m c U h1, v273_at U hX hW1, mul_comm (mk U _)]

include h0 h1 h3 hX hW2 in
/-- The perplexity of the second table. -/
theorem cell_c : ((acc m c 15 pos15).st (ix1 2) : EReal) = RefRead.perpC (Cert.ReferenceIdeal.Value.res_main_v527 U) ix0 := by
  rw [st_last, last2, KerRead.pay4_at, RefRead.perpC_at, zero_sub]
  simp only [all_cc m c U h0 h1 h3, all_v m c U h1, v527_at U hX hW2, mul_comm (mk U _)]
  refine congrArg (fun z => Ideal.exp (-z)) ?_
  refine (Fin.sum_univ_add (a := 64) (b := 64) _).trans ?_
  refine (congrArg₂ (· + ·) (Finset.sum_congr rfl fun j _ => rfl) (Finset.sum_eq_zero fun j _ => ?_)).trans (add_zero _)
  have hz : ∀ r : Fin 16384, one (arg (sc2 U r)) (Fin.natAdd 64 j).val = 0 := fun r =>
    one_far _ _ (by show 64 ≤ 64 + j.val; omega) (by show 64 + j.val < 128; omega)
  simp only [hz, zero_mul, Finset.sum_const_zero]
  rw [Ideal.zero_div (max_one_ne _), zero_mul]

theorem pay5_at (v : EReal) : (k0_pay5 (F := Ideal) v : EReal) = v * Ideal.ofBits .f32 0x34200000#32 := rfl

include hX hW1 hW2 in
/-- The differences the reference squares. -/
theorem v540_at (r : Fin 16384) (k : Fin 512) : (Cert.ReferenceIdeal.Value.res_main_v540 U (ix2 r k) : EReal) = qs U r k - X U r k := by
  rw [← v535_at U hX hW1 hW2 r k]
  rfl

include hX hW1 hW2 in
theorem isR_sqd (R : Fin 16384) : IsR (sqd U R) := by
  unfold sqd
  exact IsR.sum _ _ fun k _ => ((isR_qs U hX hW1 hW2 R k).sub (hX R k)).mul ((isR_qs U hX hW1 hW2 R k).sub (hX R k))

/-- The reference's loss of the differences. -/
theorem lossR_of (u : FVec Ideal Cert.ReferenceIdeal.S16384x512 .f32) (hu : ∀ r k, (u (ix2 r k) : EReal) = qs U r k - X U r k) :
    RefRead.lossR u ix0 = Ideal.div (∑ R : Fin 16384, sqd U R) (Ideal.ofBits .f32 0x4B000000#32) + Ideal.ofBits .f32 0x3E800000#32 * Ideal.div (∑ R : Fin 16384, sqd U R) (Ideal.ofBits .f32 0x4B000000#32) := by
  rw [RefRead.lossR_at]
  simp only [hu]
  rfl

include h0 h2 h3 in
theorem cell_l1 : ((acc m c 15 pos15).st (ix1 0) : EReal) = (∑ R : Fin 16384, sqd U R) * Ideal.ofBits .f32 0x34200000#32 := by
  rw [st_last, last0, pay5_at, all_l m c U h0 h2 h3]

include h0 h2 h3 hX hW1 hW2 in
/-- The loss. -/
theorem cell_l : ((acc m c 15 pos15).st (ix1 0) : EReal) = RefRead.lossR (Cert.ReferenceIdeal.Value.res_main_v540 U) ix0 := by
  rw [cell_l1 m c U h0 h2 h3, loss_scale _ (IsR.sum _ _ fun R _ => isR_sqd U hX hW1 hW2 R)]
  exact (lossR_of U _ (v540_at U hX hW1 hW2)).symm

include h0 h2 h3 hX hW1 hW2 in
/-- The chosen vectors. -/
theorem out_q : ((dats m 0 c).arrAt 14 cfg0.N : S16384x512.Idx → EReal)
    = addf (F := Ideal) (φ := .f32) (Cert.ReferenceIdeal.Value.res_main_v0 U) (subf (F := Ideal) (φ := .f32) (Cert.ReferenceIdeal.Value.res_main_v535 U) (Cert.ReferenceIdeal.Value.res_main_v0 U)) := by
  refine arr14 m c _ fun t r k => ?_
  rw [q_ref m c U h0 h2 h3]
  refine (add_sub_back (isR_qs U hX hW1 hW2 (row t r) k) (hX (row t r) k)).symm.trans ?_
  exact congrArg (fun z : EReal => X U (row t r) k + (z - X U (row t r) k)) (v535_at U hX hW1 hW2 (row t r) k).symm

include h0 h2 hX hW1 in
/-- The first table's codes. -/
theorem out_s : ((dats m 0 c).arrAt 12 cfg0.N : S16384.Idx → BitVec 32)
    = RefRead.iS (RefRead.sS (Cert.ReferenceIdeal.Value.res_main_v253 U) (Host.reduce FloatOps.maximumf (Cert.ReferenceIdeal.Value.res_main_v253 U) (constant Cert.ReferenceIdeal.S_ .f32 0xFF800000#32) Cert.ReferenceIdeal.Gen.reducesTo_S16384x1024_S16384_d1 Cert.ReferenceIdeal.Gen.h_S_)) := by
  refine arr12 m c _ fun t r => ?_
  rw [idxS_at, scS_eq m c U h0 h2]
  exact (idx1 U hX hW1 (row t r)).symm

include h0 h3 hX hW2 in
/-- The second table's codes. -/
theorem out_c : ((dats m 0 c).arrAt 13 cfg0.N : S16384.Idx → BitVec 32)
    = RefRead.iC (RefRead.sC (Cert.ReferenceIdeal.Value.res_main_v507 U) (Host.reduce FloatOps.maximumf (Cert.ReferenceIdeal.Value.res_main_v507 U) (constant Cert.ReferenceIdeal.S_ .f32 0xFF800000#32) Cert.ReferenceIdeal.Gen.reducesTo_S16384x64_S16384_d1 Cert.ReferenceIdeal.Gen.h_S_)) := by
  refine arr13 m c _ fun t r => ?_
  rw [idxC_at, scC_eq m c U h0 h3]
  exact (idx2 U hX hW2 (row t r)).symm

end Cert.Alg

end
-- ==== Proof.Main.lean ====
/- The kernel's and the reference's results are equal. -/
module

public import proofs.«01_k».proof.Proof.Alg
public import proofs.«01_k».proof.Proof.Finite
public import proofs.«01_k».proof.Proof.Frames

@[expose] public section

set_option maxRecDepth 16384

noncomputable section

namespace Cert.Proof

open Idealize.ShloMosaic Idealize.ShloMosaic.TcCoe Idealize.SL.Sem Idealize.ShloMosaic.StableHlo
open Cert.KernelIdeal Cert.KernelIdeal.Gen Cert.KernelIdeal.Whole Cert.Math Cert.RefRow Cert.Accum Cert.Out Cert.Alg Cert.Finite

/-- An array without axes is its one element. -/
theorem scalar_of (a : EReal) (f : S_.Idx → EReal) (h : a = f ix0) : (fun _ => a) = f := by
  funext y
  rw [h]
  exact congrArg f (funext fun i => i.elim0)

/-- The rows are real if the first argument is. -/
theorem isR_X (U : Valuation Cert.ReferenceIdeal.τ Cert.ReferenceIdeal.sig (Elt Ideal))
    (h : ∀ i : S16x1024x512.Idx, IsR (U (Proc.devRef .tc Cert.ReferenceIdeal.main_arg0) i : EReal)) (r : Fin 16384) (k : Fin 512) : IsR (X U r k) :=
  h _

variable (m : (ℓ : Loc nD τ sig) → Buf (Elt Ideal) ℓ) (c : Dev nD)
variable (U : Valuation Cert.ReferenceIdeal.τ Cert.ReferenceIdeal.sig (Elt Ideal))

/-- The reference's six results, of its arguments. -/
def R0 : S16x1024x512.Idx → EReal := shapeCast S16x1024x512 (addf (F := Ideal) (φ := .f32) (Cert.ReferenceIdeal.Value.res_main_v0 U) (subf (F := Ideal) (φ := .f32) (Cert.ReferenceIdeal.Value.res_main_v535 U) (Cert.ReferenceIdeal.Value.res_main_v0 U))) shapeCasts_S16384x512_S16x1024x512
def R1 : S_.Idx → EReal := RefRead.lossR (Cert.ReferenceIdeal.Value.res_main_v540 U)
def R2 : S_.Idx → EReal := RefRead.perpS (Cert.ReferenceIdeal.Value.res_main_v273 U)
def R3 : S_.Idx → EReal := RefRead.perpC (Cert.ReferenceIdeal.Value.res_main_v527 U)
def R4 : S16384.Idx → BitVec 32 := RefRead.iS (RefRead.sS (Cert.ReferenceIdeal.Value.res_main_v253 U) (Host.reduce FloatOps.maximumf (Cert.ReferenceIdeal.Value.res_main_v253 U) (constant Cert.ReferenceIdeal.S_ .f32 0xFF800000#32) Cert.ReferenceIdeal.Gen.reducesTo_S16384x1024_S16384_d1 Cert.ReferenceIdeal.Gen.h_S_))
def R5 : S16384.Idx → BitVec 32 := RefRead.iC (RefRead.sC (Cert.ReferenceIdeal.Value.res_main_v507 U) (Host.reduce FloatOps.maximumf (Cert.ReferenceIdeal.Value.res_main_v507 U) (constant Cert.ReferenceIdeal.S_ .f32 0xFF800000#32) Cert.ReferenceIdeal.Gen.reducesTo_S16384x64_S16384_d1 Cert.ReferenceIdeal.Gen.h_S_))

/-- The two programs' arguments agree and hold real numbers. -/
structure Same : Prop where
  h0 : (U (Proc.devRef .tc Cert.ReferenceIdeal.main_arg0) : S16x1024x512.Idx → EReal) = m ((c.tc : Thread nD τ).loc main_arg0)
  h1 : (U (Proc.devRef .tc Cert.ReferenceIdeal.main_arg1) : S16x1024.Idx → BitVec 1) = m ((c.tc : Thread nD τ).loc main_arg1)
  h2 : (U (Proc.devRef .tc Cert.ReferenceIdeal.main_arg2) : S1024x256.Idx → EReal) = m ((c.tc : Thread nD τ).loc main_arg2)
  h3 : (U (Proc.devRef .tc Cert.ReferenceIdeal.main_arg3) : S64x256.Idx → EReal) = m ((c.tc : Thread nD τ).loc main_arg3)
  hX : ∀ r k, IsR (X U r k)
  hW1 : ∀ j k, IsR (W1 U j k)
  hW2 : ∀ j k, IsR (W2 U j k)

variable (S : Same m c U)
include S

/-! The kernel's six results. -/
theorem res0 : (Pipeline.afterTail₀ cfgs (dats m) 0 (V0 m) [hostOps1] c main_v4 : S16x1024x512.Idx → EReal) = R0 U :=
  (tail4 m c).trans (congrArg (fun a : S16384x512.Idx → EReal => shapeCast S16x1024x512 a shapeCasts_S16384x512_S16x1024x512) (out_q m c U S.hX S.hW1 S.hW2 S.h0 S.h2 S.h3))
theorem res1 : (Pipeline.afterTail₀ cfgs (dats m) 0 (V0 m) [hostOps1] c main_v6 : S_.Idx → EReal) = R1 U :=
  (tail6 m c).trans (scalar_of _ _ ((congrFun (arr17 m c) (ix1 0)).trans (cell_l m c U S.hX S.hW1 S.hW2 S.h0 S.h2 S.h3)))
theorem res2 : (Pipeline.afterTail₀ cfgs (dats m) 0 (V0 m) [hostOps1] c main_v8 : S_.Idx → EReal) = R2 U :=
  (tail8 m c).trans (scalar_of _ _ ((congrFun (arr17 m c) (ix1 1)).trans (cell_s m c U S.hX S.hW1 S.h0 S.h1 S.h2)))
theorem res3 : (Pipeline.afterTail₀ cfgs (dats m) 0 (V0 m) [hostOps1] c main_v10 : S_.Idx → EReal) = R3 U :=
  (tail10 m c).trans (scalar_of _ _ ((congrFun (arr17 m c) (ix1 2)).trans (cell_c m c U S.hX S.hW2 S.h0 S.h1 S.h3)))
theorem res4 : ((dats m 0 c).arrAt 12 cfg0.N : S16384.Idx → BitVec 32) = R4 U := out_s m c U S.hX S.hW1 S.h0 S.h2
theorem res5 : ((dats m 0 c).arrAt 13 cfg0.N : S16384.Idx → BitVec 32) = R5 U := out_c m c U S.hX S.hW2 S.h0 S.h3

omit S

/-- The reference's run leaves its six results. -/
theorem run_ref (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v548) = R0 (launchContents m' c)
          ∧ r.2.mem ((c.tc : Thread Cert.ReferenceIdeal.nD Cert.ReferenceIdeal.τ).loc Cert.ReferenceIdeal.main_v545) = R1 (launchContents m' c)
          ∧ r.2.mem ((c.tc : Thread Cert.ReferenceIdeal.nD Cert.ReferenceIdeal.τ).loc Cert.ReferenceIdeal.main_v280) = R2 (launchContents m' c)
          ∧ r.2.mem ((c.tc : Thread Cert.ReferenceIdeal.nD Cert.ReferenceIdeal.τ).loc Cert.ReferenceIdeal.main_v534) = R3 (launchContents m' c)
          ∧ r.2.mem ((c.tc : Thread Cert.ReferenceIdeal.nD Cert.ReferenceIdeal.τ).loc Cert.ReferenceIdeal.main_v260) = R4 (launchContents m' c)
          ∧ r.2.mem ((c.tc : Thread Cert.ReferenceIdeal.nD Cert.ReferenceIdeal.τ).loc Cert.ReferenceIdeal.main_v514) = R5 (launchContents m' c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run _ _ _).mono (fun r h c => ?_) (Cert.ReferenceIdeal.Value.run (F := Ideal) m' g')
  obtain ⟨a0, a1, a2, a3, a4, a5, a6⟩ := h c
  exact ⟨a0.trans rfl, a1.trans rfl, a2.trans rfl, a3.trans rfl, a4.trans rfl, a5.trans rfl, a6⟩

/-- The kernel's run leaves the same six. -/
theorem run_ker (g : Dev nD → PrngReg) (Us : Dev nD → Valuation Cert.ReferenceIdeal.τ Cert.ReferenceIdeal.sig (Elt Ideal)) (S : ∀ c, Same m c (Us c)) :
    θ_run (Cert.KernelIdeal.defs (F := Ideal)) (onTc (τ := τ) (Cert.KernelIdeal.main (F := Ideal))) ⟨m, fun _ => 0, g⟩ (fun r => ∀ c : Dev nD,
          r.2.mem ((c.tc : Thread nD τ).loc main_v4) = R0 (Us c)
          ∧ r.2.mem ((c.tc : Thread nD τ).loc main_v6) = R1 (Us c)
          ∧ r.2.mem ((c.tc : Thread nD τ).loc main_v8) = R2 (Us c)
          ∧ r.2.mem ((c.tc : Thread nD τ).loc main_v10) = R3 (Us c)
          ∧ r.2.mem ((c.tc : Thread nD τ).loc main_v3_0) = R4 (Us c)
          ∧ r.2.mem ((c.tc : Thread nD τ).loc main_v3_1) = R5 (Us c)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) := by
  refine (θ_run _ _ _).mono (fun r h c => ?_) (run_main (F := Ideal) m g)
  refine ⟨((h c).2 main_v4 (Pipeline.mem_restRefs_of main_v4 (by decide) (by decide))).trans (res0 m c _ (S c)),
    ((h c).2 main_v6 (Pipeline.mem_restRefs_of main_v6 (by decide) (by decide))).trans (res1 m c _ (S c)),
    ((h c).2 main_v8 (Pipeline.mem_restRefs_of main_v8 (by decide) (by decide))).trans (res2 m c _ (S c)),
    ((h c).2 main_v10 (Pipeline.mem_restRefs_of main_v10 (by decide) (by decide))).trans (res3 m c _ (S c)),
    ((h c).1 12).trans (res4 m c _ (S c)),
    ((h c).1 13).trans (res5 m c _ (S c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c)))⟩

/-- The kernel's results are the reference's, whenever the rows and the tables hold real numbers. -/
theorem algebraic : Cert.algebraic_KernelIdeal_ReferenceIdeal_pre_finite (hKernelIdeal := Cert.KernelIdeal.Gen.facts) (hReferenceIdeal := Cert.ReferenceIdeal.Gen.facts) (hPre_finite := preFacts) := by
  intro m g m' g' hpre hargs
  have hS : ∀ c : Dev nD, Same m c (launchContents m' c) := fun c => by
    obtain ⟨e0, e1, e2, e3⟩ := hargs c
    obtain ⟨f0, f2, f3⟩ := fin_of _ _ _ _ (hpre c)
    exact ⟨e0, e1, e2, e3, isR_X _ (fun i => Eq.mpr (congrArg (fun z : EReal => IsR z) (congrFun e0 i)) (f0 i)),
      fun j k => Eq.mpr (congrArg (fun z : EReal => IsR z) (congrFun e2 (ix2 j k))) (f2 (ix2 j k)),
      fun j k => Eq.mpr (congrArg (fun z : EReal => IsR z) (congrFun e3 (ix2 j k))) (f3 (ix2 j k))⟩
  exact ⟨fun c => R0 (launchContents m' c), fun c => R1 (launchContents m' c), fun c => R2 (launchContents m' c), fun c => R3 (launchContents m' c), fun c => R4 (launchContents m' c), fun c => R5 (launchContents m' c),
    run_ker m g (fun c => launchContents m' c) hS, run_ref m' g'⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Main
public import Idealize.ShloMosaic.Adequacy
public import Idealize.ShloMosaic.Init

@[expose] public section

noncomputable section

namespace Cert.Proof

open Idealize.ShloMosaic Idealize.SL.Sem Cert.Kernel

/-- Every claim of the certificate: the three frames (two of them also under the precondition), the sanctioned
    idealization, and the equality of the kernel's six results with the reference's over the reals. -/
theorem claim : Cert.Claim :=
  ⟨Cert.Kernel.Gen.facts, Cert.KernelIdeal.Gen.facts, Cert.ReferenceIdeal.Gen.facts, Cert.Finite.preFacts,
    frame_bits, frame_ideal, fun m g _ => frame_ideal m g trivial, frame_reference, fun m g _ => frame_reference m g trivial, trivial, algebraic⟩

end Cert.Proof

end
